-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![8192, 512]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S2x512 : Shape := ⟨2, ![2, 512]⟩
abbrev S7x2x512 : Shape := ⟨3, ![7, 2, 512]⟩
abbrev S7 : Shape := ⟨1, ![7]⟩
abbrev S_ : Shape := ⟨0, ![]⟩
abbrev S512 : Shape := ⟨1, ![512]⟩
abbrev S1x512 : Shape := ⟨2, ![1, 512]⟩
abbrev S1 : Shape := ⟨1, ![1]⟩
abbrev S1x2x512 : Shape := ⟨3, ![1, 2, 512]⟩
abbrev S1x1x512 : Shape := ⟨3, ![1, 1, 512]⟩

abbrev nBuf : Space → Nat
  | .hbm => 2
  | .vmem => 4
  | .smem => 0
  | _ => 0

abbrev bufTy : (tb : Table) → Fin (tcTables nBuf tb) → BufTy
  | .hbm, ⟨0, _⟩ => ⟨S1024x512, .f32⟩
  | .hbm, ⟨1, _⟩ => ⟨S2x512, .f32⟩
  | .local _ .vmem, ⟨0, _⟩ => ⟨S1024x512, .f32⟩
  | .local _ .vmem, ⟨1, _⟩ => ⟨S2x512, .f32⟩
  | .local _ .vmem, ⟨2, _⟩ => ⟨S2x512, .f32⟩
  | .local _ .vmem, ⟨3, _⟩ => ⟨S7x2x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_34 : BitVec 32 := 1#32
  let v52 : BitVec 32 := Scalar.addi v2 c1_i32_34
  let c8_i32_35 : BitVec 32 := 8#32
  let v53 : BitVec 32 := Scalar.remsi v52 c8_i32_35
  let c1_i32_39 : BitVec 32 := 1#32
  let v54 : BitVec 32 := Scalar.muli v53 c1_i32_39
  let v55 : BitVec 32 := Scalar.addi c0_i32_40 v54
  v55.toNat
def k0_dev9 (d0 : Dev nD) : Nat :=
  let c0_i32_49 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_43 : BitVec 32 := 2#32
  let v62 : BitVec 32 := Scalar.addi v2 c2_i32_43
  let c8_i32_44 : BitVec 32 := 8#32
  let v63 : BitVec 32 := Scalar.remsi v62 c8_i32_44
  let c1_i32_48 : BitVec 32 := 1#32
  let v64 : BitVec 32 := Scalar.muli v63 c1_i32_48
  let v65 : BitVec 32 := Scalar.addi c0_i32_49 v64
  v65.toNat
def k0_dev10 (d0 : Dev nD) : Nat :=
  let c0_i32_58 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_52 : BitVec 32 := 3#32
  let v72 : BitVec 32 := Scalar.addi v2 c3_i32_52
  let c8_i32_53 : BitVec 32 := 8#32
  let v73 : BitVec 32 := Scalar.remsi v72 c8_i32_53
  let c1_i32_57 : BitVec 32 := 1#32
  let v74 : BitVec 32 := Scalar.muli v73 c1_i32_57
  let v75 : BitVec 32 := Scalar.addi c0_i32_58 v74
  v75.toNat
def k0_dev11 (d0 : Dev nD) : Nat :=
  let c0_i32_67 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_61 : BitVec 32 := 4#32
  let v82 : BitVec 32 := Scalar.addi v2 c4_i32_61
  let c8_i32_62 : BitVec 32 := 8#32
  let v83 : BitVec 32 := Scalar.remsi v82 c8_i32_62
  let c1_i32_66 : BitVec 32 := 1#32
  let v84 : BitVec 32 := Scalar.muli v83 c1_i32_66
  let v85 : BitVec 32 := Scalar.addi c0_i32_67 v84
  v85.toNat
def k0_dev12 (d0 : Dev nD) : Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_70 : BitVec 32 := 5#32
  let v92 : BitVec 32 := Scalar.addi v2 c5_i32_70
  let c8_i32_71 : BitVec 32 := 8#32
  let v93 : BitVec 32 := Scalar.remsi v92 c8_i32_71
  let c1_i32_75 : BitVec 32 := 1#32
  let v94 : BitVec 32 := Scalar.muli v93 c1_i32_75
  let v95 : BitVec 32 := Scalar.addi c0_i32_76 v94
  v95.toNat
def k0_dev13 (d0 : Dev nD) : Nat :=
  let c0_i32_85 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_79 : BitVec 32 := 6#32
  let v102 : BitVec 32 := Scalar.addi v2 c6_i32_79
  let c8_i32_80 : BitVec 32 := 8#32
  let v103 : BitVec 32 := Scalar.remsi v102 c8_i32_80
  let c1_i32_84 : BitVec 32 := 1#32
  let v104 : BitVec 32 := Scalar.muli v103 c1_i32_84
  let v105 : BitVec 32 := Scalar.addi c0_i32_85 v104
  v105.toNat
def k0_dev14 (d0 : Dev nD) : Nat :=
  let c0_i32_94 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_88 : BitVec 32 := 7#32
  let v112 : BitVec 32 := Scalar.addi v2 c7_i32_88
  let c8_i32_89 : BitVec 32 := 8#32
  let v113 : BitVec 32 := Scalar.remsi v112 c8_i32_89
  let c1_i32_93 : BitVec 32 := 1#32
  let v114 : BitVec 32 := Scalar.muli v113 c1_i32_93
  let v115 : BitVec 32 := Scalar.addi c0_i32_94 v114
  v115.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x512 : Shape := ⟨2, ![8192, 512]⟩
abbrev S_ : Shape := ⟨0, ![]⟩
abbrev S512 : Shape := ⟨1, ![512]⟩
abbrev S1x512 : Shape := ⟨2, ![1, 512]⟩
abbrev S2x512 : Shape := ⟨2, ![2, 512]⟩

abbrev nBuf : Space → Nat
  | .hbm => 12
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .i32⟩
  | .hbm, ⟨2, _⟩ => ⟨S_, .f32⟩
  | .hbm, ⟨3, _⟩ => ⟨S_, .i32⟩
  | .hbm, ⟨4, _⟩ => ⟨S512, .f32⟩
  | .hbm, ⟨5, _⟩ => ⟨S512, .i32⟩
  | .hbm, ⟨6, _⟩ => ⟨S512, .f32⟩
  | .hbm, ⟨7, _⟩ => ⟨S_, .f32⟩
  | .hbm, ⟨8, _⟩ => ⟨S512, .f32⟩
  | .hbm, ⟨9, _⟩ => ⟨S1x512, .f32⟩
  | .hbm, ⟨10, _⟩ => ⟨S1x512, .f32⟩
  | .hbm, ⟨11, _⟩ => ⟨S2x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_c : Ref sig .tc := ⟨.hbm, 3, rfl⟩
abbrev main_call0_v1_0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Proof.Slots.lean ====
/-
# The mesh of eight devices and the buffers of the exchange

Device `c` sends its two rows (column maxima, their row numbers) to every other device: its copy number `j`
(of seven) goes to the device `j + 1` places after it and lands in slot `j` of that device's receive buffer.
This module names the target and the source of a copy, the buffers, the slots and the semaphores, and
shows that the seven slots tile the receive buffer.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Ring
public import Idealize.ShloMosaic.Lib.Transfers
public import Idealize.ShloMosaic.Lib.Rounds.Family
public import Idealize.ShloMosaic.Lib.ValueLayout
public import Idealize.ShloMosaic.Lib.ViewIndex

@[expose] public section

noncomputable section

namespace Cert.Exchange

open Cert.KernelIdeal Cert.KernelIdeal.Gen
open Idealize.ShloMosaic Idealize.ShloMosaic.TcCoe

attribute [local instance] Cert.KernelIdeal.Gen.facts

/-! ## Who sends to whom -/

set_option backward.proofsInPublic true in
/-- The device that copy `j` of device `c` goes to. -/
def tgt (c : Dev nD) (j : Fin 7) : Dev nD := ⟨(c.val + (j.val + 1)) % 8, Nat.mod_lt _ (by decide)⟩
set_option backward.proofsInPublic true in
/-- The device whose copy `j` comes to device `c`. -/
def src (c : Dev nD) (j : Fin 7) : Dev nD := ⟨(c.val + (7 - j.val)) % 8, Nat.mod_lt _ (by decide)⟩
/-- The copy that goes back over the distance of copy `j`. -/
def opp (j : Fin 7) : Fin 7 := ⟨6 - j.val, by omega⟩

/-- Going `j + 1` places on and then back is no move. -/
theorem tgt_opp (c : Dev nD) (j : Fin 7) : tgt (tgt c j) (opp j) = c := by revert c j; decide
/-- Slot `j` of the target of copy `j` is filled by the sender. -/
theorem src_tgt (c : Dev nD) (j : Fin 7) : src (tgt c j) j = c := by revert c j; decide
/-- The device whose copy `j` comes to `c` has `c` as that copy's target. -/
theorem tgt_src (c : Dev nD) (j : Fin 7) : tgt (src c j) j = c := by revert c j; decide
/-- Opposite twice is the same copy. -/
theorem opp_opp (j : Fin 7) : opp (opp j) = j := by revert j; decide

/-- For each copy, its target as a reordering of the devices. -/
def shift (j : Fin 7) : Dev nD ≃ Dev nD := ⟨(tgt · j), (src · j), (src_tgt · j), (tgt_src · j)⟩

/-! ## Buffers, slots, semaphores -/

/-- The staged block of the argument. -/
abbrev xM : Memref sig .tc .vmem S1024x512 .f32 := Memref.whole cc0_stg0_0
/-- The staged result. -/
abbrev oM : Memref sig .tc .vmem S2x512 .f32 := Memref.whole cc0_stg1_0
/-- The send buffer. -/
abbrev bM : Memref sig .tc .vmem S2x512 .f32 := Memref.whole cc0_scratch0
/-- The receive buffer. -/
abbrev rM : Memref sig .tc .vmem S7x2x512 .f32 := Memref.whole cc0_scratch1

set_option backward.proofsInPublic true in
/-- Slot `j`'s rectangle lies in the receive buffer. -/
theorem inb_slot (j : Fin 7) : ∀ a, (![j.val, 0, 0] : Fin 3 → Nat) a + S1x2x512.size a ≤ S7x2x512.size a := by
  revert j; decide
/-- Semaphore `j`'s place lies in an array of seven. -/
theorem inb_sem (j : Fin 7) : ∀ a, (![j.val] : Fin 1 → Nat) a + S1.size a ≤ S7.size a := by
  revert j; decide
/-- Row `r` of slot `j` lies in the receive buffer. -/
theorem inb_row (j : Fin 7) (r : Fin 2) :
    ∀ a, (![j.val, r.val, 0] : Fin 3 → Nat) a + S1x1x512.size a ≤ S7x2x512.size a := by
  revert j r; decide

/-- Slot `j`'s rectangle of the receive buffer. -/
abbrev slotRect (j : Fin 7) : Rect S7x2x512 := Rect.unit (s := S7x2x512) ![j.val, 0, 0] S1x2x512.size (inb_slot j)
/-- Row `r` of slot `j`, as a rectangle of the receive buffer. -/
abbrev rowRect (j : Fin 7) (r : Fin 2) : Rect S7x2x512 :=
  Rect.unit (s := S7x2x512) ![j.val, r.val, 0] S1x1x512.size (inb_row j r)

/-- Slot `j` of the receive buffer, two rows of 512. -/
abbrev slotM (j : Fin 7) : Memref sig .tc .vmem S2x512 .f32 :=
  (rM.slice (slotRect j) (fun _ => rfl)).squeeze S2x512 squeezes_S1x2x512_S2x512

/-- The runtime's barrier semaphore. -/
abbrev barS : Sem sig := (SemArray.scalar (sig.barrier 0 rfl) : Sems sig S_).sem
/-- Semaphore `j` of an array of seven. -/
abbrev semAt (a : DmaSems sig S7) (j : Fin 7) : DmaSem sig :=
  ((a.slice (Rect.unit (s := S7) ![j.val] S1.size (inb_sem j))).squeeze S_ squeezes_S1_S_).sem
/-- The semaphore that tells copy `j` has left the sender. -/
abbrev sendS (j : Fin 7) : DmaSem sig := semAt cc0_scratch2 j
/-- The semaphore that tells copy `j` has arrived. -/
abbrev recvS (j : Fin 7) : DmaSem sig := semAt cc0_scratch3 j

/-! ## The slots tile the receive buffer -/

/-- The elements of slot `j`. -/
abbrev slotSet (j : Fin 7) : Finset S7x2x512.Idx := (slotM j).view.set

/-- An element of the receive buffer is in slot `j` exactly when its first coordinate is `j`. -/
theorem mem_slot (j : Fin 7) (i : S7x2x512.Idx) : i ∈ slotSet j ↔ (i 0).val = j.val := by
  have h : slotSet j = (slotRect j).set :=
    ((View.set_reshape _ _).trans (View.set_slice_whole cc0_scratch1 (slotRect j)))
  rw [h, LoadRect.mem_set]
  constructor
  · intro hi
    obtain ⟨k, hk, e⟩ := hi 0
    have hk' : k < 1 := hk
    have e' : (i 0).val = j.val + 1 * k := e
    omega
  · intro hi a
    match a with
    | ⟨0, _⟩ => exact ⟨0, Nat.one_pos, by show (i 0).val = j.val + 1 * 0; omega⟩
    | ⟨1, _⟩ => exact ⟨(i 1).val, (i 1).isLt, by show (i 1).val = 0 + 1 * (i 1).val; omega⟩
    | ⟨2, _⟩ => exact ⟨(i 2).val, (i 2).isLt, by show (i 2).val = 0 + 1 * (i 2).val; omega⟩

/-- Different slots share no element. -/
theorem slot_disjoint (j j' : Fin 7) (h : j ≠ j') : Disjoint (slotSet j) (slotSet j') :=
  Finset.disjoint_left.mpr fun i hi hi' => h (Fin.ext (((mem_slot j i).mp hi).symm.trans ((mem_slot j' i).mp hi')))

/-- Every element of the receive buffer is in a slot. -/
theorem slot_cover : Finset.univ.biUnion slotSet = Finset.univ := by
  refine Finset.eq_univ_iff_forall.mpr fun i => Finset.mem_biUnion.mpr ⟨⟨(i 0).val, (i 0).isLt⟩, Finset.mem_univ _, ?_⟩
  exact (mem_slot _ i).mpr rfl

/-- A row of slot `j` lies in slot `j`. -/
theorem row_subset (j : Fin 7) (r : Fin 2) :
    (rM : Memref sig .tc .vmem S7x2x512 .f32).view.setOn (rowRect j r).toLoadRect.set ⊆ slotSet j := by
  intro i hi
  obtain ⟨x, hx, rfl⟩ := Finset.mem_map.mp hi
  obtain ⟨k, hk, e⟩ := (LoadRect.mem_set (rowRect j r).toLoadRect).mp hx 0
  have hk' : k < 1 := hk
  have e' : (x 0).val = j.val + 1 * k := e
  exact (mem_slot j x).mpr (by omega)

end Cert.Exchange

end
-- ==== Proof.Protocol.lean ====
/-
# The protocol of the exchange

Each device has a barrier semaphore, seven send semaphores and seven receive semaphores. A barrier semaphore is
signalled once by each of the seven other devices; a signal hands over the slot of the signaller's receive buffer
that the signalled device will fill. A send semaphore gives back the sender's share of its send buffer, a receive
semaphore gives the receiver its slot, filled. This module states the buffers' contents and this schedule.
-/
module

public import proofs.«01_k».proof.Proof.Slots

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)
open Idealize.ShloMosaic.Transfers (shareTok shareDrop)

attribute [local instance] Cert.KernelIdeal.Gen.facts

variable {F : FTy → Type} [FloatOps F]

/-! ## The resource algebra -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The semaphores -/

/-- A device's semaphores in this kernel: the barrier, the seven send ones, the seven receive ones. -/
abbrev Cell : Type := Unit ⊕ (Fin 7 ⊕ Fin 7)

/-- The semaphores that belong to the launch: send and receive. -/
abbrev osem : Fin 7 ⊕ Fin 7 → SemLoc sig := Sum.elim (fun j => .dma (sendS j)) (fun j => .dma (recvS j))
/-- All of them. -/
abbrev csem : Cell → SemLoc sig := Sum.elim (fun _ => .reg barS) osem
/-- A device's semaphore. -/
abbrev kcell (ck : Dev nD × Cell) : GSem nD τ sig := ((ck.1 : Thread nD τ), csem ck.2)

abbrev barCell (c : Dev nD) : GSem nD τ sig := ((c : Thread nD τ), .reg barS)
abbrev sendCell (c : Dev nD) (j : Fin 7) : GSem nD τ sig := ((c : Thread nD τ), .dma (sendS j))
abbrev recvCell (c : Dev nD) (j : Fin 7) : GSem nD τ sig := ((c : Thread nD τ), .dma (recvS j))

/-- Two different ones are different semaphores. -/
theorem csem_inj : Function.Injective csem := by decide

/-- Which of them a semaphore is, if any. -/
def kindOf (s : SemLoc sig) : Option Cell := open Classical in if h : ∃ k, csem k = s then some h.choose else none

theorem kindOf_csem (k : Cell) : kindOf (csem k) = some k := by
  have h : ∃ k', csem k' = csem k := ⟨k, rfl⟩
  unfold kindOf
  rw [dif_pos h]
  exact congrArg some (csem_inj h.choose_spec)

theorem kindOf_bar : kindOf (.reg barS) = some (.inl ()) := kindOf_csem (.inl ())
theorem kindOf_send (j : Fin 7) : kindOf (.dma (sendS j)) = some (.inr (.inl j)) := kindOf_csem (.inr (.inl j))
theorem kindOf_recv (j : Fin 7) : kindOf (.dma (recvS j)) = some (.inr (.inr j)) := kindOf_csem (.inr (.inr j))

/-- A semaphore of the kernel tells its kind. -/
theorem csem_of_kindOf {s : SemLoc sig} {k : Cell} (h : kindOf s = some k) : csem k = s := by
  unfold kindOf at h
  split at h
  · rename_i hs
    have := hs.choose_spec
    rwa [Option.some.inj h] at this
  · cases h

/-- What one copy credits to a semaphore. -/
abbrev N : ℕ := (bM : Memref sig .tc .vmem S2x512 .f32).view.dmaCredit
theorem N_pos : 0 < N := View.dmaCredit_pos _ (by decide)
/-- The same for every slot it lands in. -/
theorem N_slot (j : Fin 7) : (slotM j).view.dmaCredit = N := by
  revert j; decide

/-! ## Contents -/

variable (x : Dev nD → Vec F S1024x512 .f32)

/-- The device's number as the kernel computes it. -/
abbrev word (c : Dev nD) : BitVec 32 := Scalar.remsi (Scalar.divsi (Dev.word c) 1#32) 8#32

/-- What device `p` sends: row 0 the maxima of its columns, row 1 their row numbers. -/
def sent (p : Dev nD) : Vec F S2x512 .f32 := fun i =>
  if (i 0).val = 0 then k0_pay5 (x p) (ix1 (i 1)) else k0_pay6 (word p) (x p) (ix1 (i 1))

/-- What the receive buffer of device `c` holds once every copy has landed. -/
def landed (c : Dev nD) : Vec F S7x2x512 .f32 := fun i => sent x (src c (i 0)) (ix2 (i 1) (i 2))

/-- Device `c`'s send buffer, at share `q`, holding what it sends. -/
def sendPts (c : Dev nD) (q : PosShare TreeShare) : sProp 𝕄 :=
  (bM : Memref sig .tc .vmem S2x512 .f32).view.loc (c : Thread nD τ)
    ↦[(bM : Memref sig .tc .vmem S2x512 .f32).view.set]{q} (sent x c)
/-- Slot `j` of device `c`'s receive buffer, holding `f` there. -/
def slotPts (c : Dev nD) (j : Fin 7) (f : Vec F S7x2x512 .f32) : sProp 𝕄 :=
  (slotM j).view.loc (c : Thread nD τ) ↦[(slotM j).view.set]{fullShare} f

instance sendPts_storable (c : Dev nD) (q) : BI.Storable (upEmb : UEmb _ 𝕄) (sendPts x c q) := by
  unfold sendPts; infer_instance
omit [FloatOps F] in
instance slotPts_storable (c : Dev nD) (j) (f) : BI.Storable (upEmb : UEmb _ 𝕄) (slotPts (F := F) c j f) := by
  unfold slotPts; infer_instance

/-- An element of slot `j` is its row and column with `j` in front. -/
theorem slot_emb (j : Fin 7) (y : S2x512.Idx) : (slotM j).view.emb y = ix3 j (y 0) (y 1) := by
  have e : (slotM j).view.emb y = (slotRect j).emb (Shape.reshapeEquiv (s := (slotRect j).shape) (s' := S2x512) squeezes_S1x2x512_S2x512.numel_eq y) := rfl
  rw [e, ValueIdx.eq_ix2 y]
  erw [ValueIdx.reshapeEquiv_ix2_1ab]
  funext a
  match a with
  | ⟨0, _⟩ => exact Fin.ext (by show j.val + 1 * 0 = j.val; omega)
  | ⟨1, _⟩ => exact Fin.ext (by show 0 + 1 * (y 0).val = (y 0).val; omega)
  | ⟨2, _⟩ => exact Fin.ext (by show 0 + 1 * (y 1).val = (y 1).val; omega)

/-- A copy landing in slot `j` of device `c` leaves there what the final contents have there. -/
theorem landed_eq (c : Dev nD) (j : Fin 7) (fd : Vec F S7x2x512 .f32) :
    ∀ i ∈ (slotM j).view.set,
      (slotM j).view.write (Elt F) fd ((bM : Memref sig .tc .vmem S2x512 .f32).view.read (Elt F) (sent x (src c j))) Finset.univ i
        = landed x c i := by
  intro i hi
  obtain ⟨y, -, rfl⟩ := Finset.mem_map.mp hi
  refine (View.write_emb_of_mem _ _ (Finset.mem_univ y)).trans ?_
  rw [slot_emb]
  exact congrArg (sent x (src c j)) (ValueIdx.eq_ix2 y)

/-! ## The schedule -/

/-- What the signal by the target of copy `j` hands device `c`: that device's slot `j`, whatever it holds. -/
def barPay (c : Dev nD) (j : Fin 7) : sProp 𝕄 := iprop(∃ f, slotPts (F := F) (tgt c j) j f)
/-- What a send semaphore gives back: the copy's share of the send buffer. -/
def sendPay (c : Dev nD) (j : Fin 7) : sProp 𝕄 := sendPts x c (shareTok fullShare 7 j)
/-- What a receive semaphore gives: the slot, filled. -/
def recvPay (c : Dev nD) (j : Fin 7) : sProp 𝕄 := slotPts c j (landed x c)

/-- The single round: a barrier semaphore is owed one unit by each other device, a send or receive semaphore a
    copy's credit. -/
def rd : Rounds.Schedule (GSem nD τ sig) (Fin 7) 𝕄 where
  duties g r :=
    if r = 0 ∧ g.1.2 = .tc then
      match kindOf g.2 with
      | some (.inl _) => Finset.univ
      | some (.inr _) => {0}
      | none => ∅
    else ∅
  unitless _ := False
  amount g _ _ :=
    match kindOf g.2 with
    | some (.inr _) => N
    | _ => 1
  payload g _ d :=
    match kindOf g.2 with
    | some (.inl _) => barPay g.1.1 d
    | some (.inr (.inl j)) => sendPay x g.1.1 j
    | some (.inr (.inr j)) => recvPay x g.1.1 j
    | none => iprop(emp)
  amount_pos g _ _ _ := by
    split
    · exact N_pos
    · exact Nat.one_pos

instance rd_storable (g : GSem nD τ sig) (r : ℕ) (d : Fin 7) :
    BI.Storable (upEmb : UEmb _ 𝕄) ((rd x).payload g r d) := by
  dsimp only [rd]
  unfold barPay sendPay recvPay
  split <;> infer_instance

section Sched
variable (c : Dev nD) (j : Fin 7)

theorem duties_bar : (rd x).duties (barCell c) 0 = Finset.univ := by
  dsimp only [rd]; rw [if_pos ⟨rfl, rfl⟩, kindOf_bar]
theorem duties_send : (rd x).duties (sendCell c j) 0 = {0} := by
  dsimp only [rd]; rw [if_pos ⟨rfl, rfl⟩, kindOf_send]
theorem duties_recv : (rd x).duties (recvCell c j) 0 = {0} := by
  dsimp only [rd]; rw [if_pos ⟨rfl, rfl⟩, kindOf_recv]
theorem duties_later (g : GSem nD τ sig) : ∀ r, 1 ≤ r → (rd x).duties g r = ∅ := fun r hr => by
  dsimp only [rd]; exact if_neg fun h => by omega

theorem amount_bar (d : Fin 7) : (rd x).amount (barCell c) 0 d = 1 := by dsimp only [rd]; rw [kindOf_bar]
theorem amount_send (d : Fin 7) : (rd x).amount (sendCell c j) 0 d = N := by dsimp only [rd]; rw [kindOf_send]
theorem amount_recv (d : Fin 7) : (rd x).amount (recvCell c j) 0 d = N := by dsimp only [rd]; rw [kindOf_recv]

theorem expect_bar : (rd x).expect (barCell c) 0 = 7 := by
  unfold Schedule.expect Schedule.amountOf
  rw [duties_bar, Finset.sum_congr rfl fun d _ => amount_bar x c d, Finset.sum_const, Finset.card_univ, Fintype.card_fin, smul_eq_mul]
theorem expect_send : (rd x).expect (sendCell c j) 0 = N := by
  unfold Schedule.expect Schedule.amountOf; rw [duties_send, Finset.sum_singleton, amount_send]
theorem expect_recv : (rd x).expect (recvCell c j) 0 = N := by
  unfold Schedule.expect Schedule.amountOf; rw [duties_recv, Finset.sum_singleton, amount_recv]

theorem payload_bar (d : Fin 7) : (rd x).payload (barCell c) 0 d = barPay c d := by dsimp only [rd]; rw [kindOf_bar]
theorem payload_send (d : Fin 7) : (rd x).payload (sendCell c j) 0 d = sendPay x c j := by dsimp only [rd]; rw [kindOf_send]
theorem payload_recv (d : Fin 7) : (rd x).payload (recvCell c j) 0 d = recvPay x c j := by dsimp only [rd]; rw [kindOf_recv]

/-- All that a barrier wait gives: every target's slot. -/
theorem rest_bar : bigSep ((rd x).duties (barCell c) 0 \ ∅) (fun d => (rd x).payload (barCell c) 0 d)
    = bigSep Finset.univ (fun d => barPay (F := F) c d) := by
  rw [Finset.sdiff_empty, duties_bar]
  exact bigSep_congr fun d _ => payload_bar x c d
theorem rest_send : bigSep ((rd x).duties (sendCell c j) 0 \ ∅) (fun d => (rd x).payload (sendCell c j) 0 d) = sendPay x c j := by
  rw [Finset.sdiff_empty, duties_send, bigSep_singleton, payload_send]
theorem rest_recv : bigSep ((rd x).duties (recvCell c j) 0 \ ∅) (fun d => (rd x).payload (recvCell c j) 0 d) = recvPay x c j := by
  rw [Finset.sdiff_empty, duties_recv, bigSep_singleton, payload_recv]

end Sched

/-! ## What a device owes; the levels -/

/-- The copies from number `k` on. -/
def rest (k : ℕ) : Finset (Fin 7) := Finset.univ.filter fun j => k ≤ j.val
/-- The copies before number `k`. -/
def done (k : ℕ) : Finset (Fin 7) := Finset.univ.filter fun j => j.val < k

/-- The arrivals device `c` still owes before its copy `k`. -/
def owedRecv (c : Dev nD) (k : ℕ) : CellTallies nD τ sig Unit := ∑ j ∈ rest k, tallyAt (recvCell (tgt c j) j) () N
/-- The signals device `c` still owes before its signal `k`. -/
def owedBar (c : Dev nD) (k : ℕ) : CellTallies nD τ sig Unit := ∑ j ∈ rest k, tallyAt (barCell (tgt c j)) () 1
/-- All that device `c` owes at the start. -/
def O₀ (c : Dev nD) : CellTallies nD τ sig Unit := owedRecv c 0 + owedBar c 0

/-- Taking the first of the remaining copies away. -/
theorem rest_step (j : Fin 7) : rest j.val = insert j (rest (j.val + 1)) := by revert j; decide
theorem rest_not_mem (j : Fin 7) : j ∉ rest (j.val + 1) := by revert j; decide
theorem done_step (j : Fin 7) : done (j.val + 1) = insert j (done j.val) := by revert j; decide
theorem done_not_mem (j : Fin 7) : j ∉ done j.val := by revert j; decide
theorem rest_zero : rest 0 = Finset.univ := by decide
theorem rest_seven : rest 7 = ∅ := by decide
theorem done_zero : done 0 = ∅ := by decide
theorem done_seven : done 7 = Finset.univ := by decide

theorem owedRecv_step (c : Dev nD) (j : Fin 7) :
    owedRecv c j.val = owedRecv c (j.val + 1) + tallyAt (recvCell (tgt c j) j) () N := by
  unfold owedRecv; rw [rest_step j, Finset.sum_insert (rest_not_mem j), add_comm]
theorem owedBar_step (c : Dev nD) (j : Fin 7) :
    owedBar c j.val = owedBar c (j.val + 1) + tallyAt (barCell (tgt c j)) () 1 := by
  unfold owedBar; rw [rest_step j, Finset.sum_insert (rest_not_mem j), add_comm]
theorem owedRecv_end (c : Dev nD) : owedRecv c 7 = 0 := by unfold owedRecv; rw [rest_seven, Finset.sum_empty]
theorem owedBar_end (c : Dev nD) : owedBar c 7 = 0 := by unfold owedBar; rw [rest_seven, Finset.sum_empty]

/-- Every semaphore of a device's main thread has a level. -/
def L (g : GSem nD τ sig) : Finset Unit := if g.1.2 = .tc then {()} else ∅
/-- Barrier semaphores at level 1, receive semaphores at level 2, all others at 0. -/
def lv (g : GSem nD τ sig) (_ : Unit) : ℕ :=
  match kindOf g.2 with
  | some (.inl _) => 1
  | some (.inr (.inr _)) => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by dsimp only [lv]; rw [kindOf_bar]
theorem lv_recv (c : Dev nD) (j : Fin 7) : lv (recvCell c j) () = 2 := by dsimp only [lv]; rw [kindOf_recv]

/-- What is owed in arrivals is owed to receive semaphores. -/
theorem owedRecv_pos {c : Dev nD} {k : ℕ} {g : GSem nD τ sig} {u : Unit} (h : 0 < owedRecv c k g u) :
    ∃ d j, g = recvCell d j := by
  unfold owedRecv at h
  rw [Finset.sum_apply, Finsupp.finset_sum_apply] at h
  obtain ⟨j, -, hj⟩ := Finset.exists_ne_zero_of_sum_ne_zero h.ne'
  rw [tallyAt_apply] at hj
  by_contra hn
  exact hj (if_neg fun h' => hn ⟨_, _, h'.1⟩)
/-- What is owed in signals is owed to barrier semaphores. -/
theorem owedBar_pos {c : Dev nD} {k : ℕ} {g : GSem nD τ sig} {u : Unit} (h : 0 < owedBar c k g u) :
    ∃ d, g = barCell d := by
  unfold owedBar at h
  rw [Finset.sum_apply, Finsupp.finset_sum_apply] at h
  obtain ⟨j, -, hj⟩ := Finset.exists_ne_zero_of_sum_ne_zero h.ne'
  rw [tallyAt_apply] at hj
  by_contra hn
  exact hj (if_neg fun h' => hn ⟨_, h'.1⟩)
theorem O₀_pos {c : Dev nD} {g : GSem nD τ sig} {u : Unit} (h : 0 < O₀ c g u) :
    (∃ d j, g = recvCell d j) ∨ ∃ d, g = barCell d := by
  unfold O₀ at h
  rw [Pi.add_apply, Finsupp.add_apply] at h
  rcases Nat.eq_zero_or_pos (owedRecv c 0 g u) with h0 | h0
  · rw [h0, Nat.zero_add] at h
    exact .inr (owedBar_pos h)
  · exact .inl (owedRecv_pos h0)

omit [FloatOps F] in
/-- A semaphore of level 0 may be waited on whatever of this is owed. -/
theorem mayWait_stage (c : Dev nD) (q : DmaSem sig) (hq : kindOf (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, j, rfl⟩ | ⟨d, rfl⟩ <;> exact Finset.mem_singleton_self _)
      (fun p hp => by rw [Finset.mem_singleton.mp hp]; dsimp only [lv]; rw [hq])
      (fun g u hg => by
        rcases O₀_pos hg with ⟨d, j, rfl⟩ | ⟨d, rfl⟩
        · rw [lv_recv]; decide
        · rw [lv_bar]; decide)
  · rw [MayWait_zero]; iintro -; iempintro

omit [FloatOps F] in
/-- At its barrier wait a device owes arrivals only. -/
theorem mayWait_bar (c : Dev nD) (k : ℕ) :
    (levAts L lv : sProp 𝕄) ⊢ MayWait (c : Thread nD τ) (.reg barS) () (owedRecv c k) :=
  MayOwe.of_cut (L := L) (lev := lv) 1 (fun p hp => by rw [Finset.mem_singleton.mp hp, L_tc]; exact Finset.mem_singleton_self _)
    (fun g u hg => by obtain ⟨d, j, rfl⟩ := owedRecv_pos hg; exact Finset.mem_singleton_self _)
    (fun p hp => by rw [Finset.mem_singleton.mp hp]; exact (lv_bar c).le)
    (fun g u hg => by obtain ⟨d, j, rfl⟩ := owedRecv_pos hg; rw [lv_recv]; decide)

end Cert.Exchange

end
-- ==== Proof.Steps.lean ====
/-
# One step of each kind

The kernel signals, sends and waits seven times each. This module states how far such a sequence of seven has come
(`prog`) and proves one rule for each kind of step: a signal, a copy sent, a wait for a copy to have left, a wait for
a copy to have arrived, a load of a row that has arrived.
-/
module

public import proofs.«01_k».proof.Proof.Protocol

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)
open Idealize.ShloMosaic.Transfers (shareTok shareDrop)

attribute [local instance] Cert.KernelIdeal.Gen.facts

variable {F : FTy → Type} [FloatOps F]

local notation "𝕄" => MT nD τ sig Unit (Elt F) ℕ UU ℕ

/-! ## A sequence of seven, under way -/

/-- Before step `k`: what the steps from `k` on start from, and what the steps before `k` have left. -/
def prog (k : ℕ) (A B : Fin 7 → sProp 𝕄) : sProp 𝕄 := iprop(bigSep (rest k) A ∗ bigSep (done k) B)

omit [FloatOps F] in
/-- The first of the remaining steps, apart. -/
theorem rest_split (j : Fin 7) (A : Fin 7 → sProp 𝕄) : bigSep (rest j.val) A = iprop(A j ∗ bigSep (rest (j.val + 1)) A) := by
  rw [rest_step j, bigSep_insert (rest_not_mem j)]; rfl
omit [FloatOps F] in
/-- The last of the steps done, apart. -/
theorem done_split (j : Fin 7) (B : Fin 7 → sProp 𝕄) : bigSep (done (j.val + 1)) B = iprop(B j ∗ bigSep (done j.val) B) := by
  rw [done_step j, bigSep_insert (done_not_mem j)]; rfl
omit [FloatOps F] in
/-- Any of the steps done, apart. -/
theorem done_erase (k : ℕ) (j : Fin 7) (h : j.val < k) (B : Fin 7 → sProp 𝕄) :
    bigSep (done k) B = iprop(B j ∗ bigSep ((done k).erase j) B) := by
  rw [bigSep_erase (show j ∈ done k from Finset.mem_filter.mpr ⟨Finset.mem_univ j, h⟩)]; rfl

omit [FloatOps F] in
/-- At the start every step is to come. -/
theorem prog_start (A B : Fin 7 → sProp 𝕄) : bigSep Finset.univ A ⊢ prog 0 A B := by
  unfold prog; rw [rest_zero, done_zero, bigSep_empty]
  iintro H; isplitl [H]; · iexact H
  iempintro
omit [FloatOps F] in
/-- At the end every step has been done. -/
theorem prog_end (A B : Fin 7 → sProp 𝕄) : prog 7 A B ⊢ bigSep Finset.univ B := by
  unfold prog; rw [rest_seven, done_seven, bigSep_empty]
  iintro ⟨-, H⟩; iexact H
omit [FloatOps F] in
/-- One step: it takes its start and leaves its result. -/
theorem prog_step (j : Fin 7) (A B : Fin 7 → sProp 𝕄) :
    prog j.val A B ⊢ iprop(A j ∗ (B j -∗ prog (j.val + 1) A B)) := by
  unfold prog
  rw [rest_split, done_split]
  iintro ⟨⟨Ha, Hr⟩, Hd⟩
  isplitl [Ha]; · iexact Ha
  iintro Hb
  isplitl [Hr]; · iexact Hr
  isplitl [Hb] <;> iassumption
omit [FloatOps F] in
/-- What a step has left can be used and put back. -/
theorem prog_look (k : ℕ) (j : Fin 7) (h : j.val < k) (A B : Fin 7 → sProp 𝕄) :
    prog k A B ⊢ iprop(B j ∗ (B j -∗ prog k A B)) := by
  unfold prog
  rw [done_erase k j h]
  iintro ⟨Hr, Hb, Hd⟩
  isplitl [Hb]; · iexact Hb
  iintro Hb
  isplitl [Hr]; · iexact Hr
  isplitl [Hb] <;> iassumption

/-! ## The records every device keeps -/

variable (x : Dev nD → Vec F S1024x512 .f32) (K : Dev nD × Cell → ℕ)

/-- Every semaphore's invariant, and that it has reached its round. -/
def records : sProp 𝕄 := bigSep Finset.univ fun ck => iprop(cellInv ER (rd x) (K ck) (kcell ck) ∗ reached ER (kcell ck) 0)

instance records_persistent : BI.Persistent (records x K) := by unfold records; infer_instance

/-- The record of one semaphore. -/
theorem records_at (ck : Dev nD × Cell) :
    records x K ⊢ iprop(cellInv ER (rd x) (K ck) (kcell ck) ∗ reached ER (kcell ck) 0) := by
  unfold records; exact bigSep_elim (Finset.mem_univ ck)
theorem records_bar (c : Dev nD) :
    records x K ⊢ iprop(cellInv ER (rd x) (K (c, .inl ())) (barCell c) ∗ reached ER (barCell c) 0) := records_at x K (c, .inl ())
theorem records_send (c : Dev nD) (j : Fin 7) :
    records x K ⊢ iprop(cellInv ER (rd x) (K (c, .inr (.inl j))) (sendCell c j) ∗ reached ER (sendCell c j) 0) :=
  records_at x K (c, .inr (.inl j))
theorem records_recv (c : Dev nD) (j : Fin 7) :
    records x K ⊢ iprop(cellInv ER (rd x) (K (c, .inr (.inr j))) (recvCell c j) ∗ reached ER (recvCell c j) 0) :=
  records_at x K (c, .inr (.inr j))

/-- What device `c` owes, whatever it has waited for. -/
def owesE (c : Dev nD) (O : CellTallies nD τ sig Unit) : sProp 𝕄 := iprop(∃ W, owes (c : Thread nD τ) O W)

abbrev 𝒱₀ : Variants := Variants.none

/-! ## Signals -/

/-- A signal starts from its duty and the slot it hands over. -/
def sigA (c : Dev nD) (j : Fin 7) : sProp 𝕄 :=
  iprop(dutyTok ER (barCell (tgt c j)) 0 (opp j) ∗ ∃ f, slotPts (F := F) c (opp j) f)
/-- Before signal `k`. -/
def signalling (c : Dev nD) (k : ℕ) : sProp 𝕄 :=
  iprop(owesE c (owedRecv c 0 + owedBar c k) ∗ prog k (sigA (F := F) c) (fun _ => iprop(emp)))

section Ops
variable {α : Type} (c : Dev nD)

/-- One signal. -/
theorem signal_step (j : Fin 7) (i : ℕ) (hi : j.val = i) (n : Dev nD) (hn : n = tgt c j) {k : PUnit → Prog (TpuEff nD τ sig (Elt F) Λ₀ .tc) α} {Q : α → sProp 𝕄} :
    records x K
      ⊢ iprop(signalling c i -∗ (signalling c (i + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (n, .tc) barS (1#32 : BitVec 32).toInt) k) Q) := by
  subst hn hi
  unfold signalling owesE
  iintro #Hr ⟨⟨%W, HO⟩, Hp⟩ Hk
  ihave Hp := (prog_step j _ _) $$ Hp
  icases Hp with ⟨Ha, Hp⟩
  unfold sigA
  icases Ha with ⟨Htok, Hslot⟩
  ihave HR := (records_bar x K (tgt c j)) $$ Hr
  icases HR with ⟨#Hinv, #Hreached⟩
  iapply (Rounds.wp_signal 𝒱₀ ER (rd x) (c : Thread nD τ) none (dst := (tgt c j : Thread nD τ)) (κ := K (tgt c j, .inl ()))
      (d := opp j) (by rw [duties_bar]; exact Finset.mem_univ _) ((amount_bar x (tgt c j) (opp j)).trans (by decide)) ()
      (owedRecv c 0 + owedBar c (j.val + 1)) (O₀ := owedRecv c 0 + owedBar c j.val) (by rw [owedBar_step, add_assoc]; rfl) (W := W)) $$ [HO Htok Hslot]
  · isplitr; · iexact Hinv
    isplitl [HO]; · iexact HO
    isplitl [Htok]; · iexact Htok
    isplitl [Hslot]
    · rw [payload_bar]; unfold barPay; rw [tgt_opp]; iexact Hslot
    iexact Hreached
  iintro HO
  iapply Hk
  isplitl [HO]; · iexists W; iexact HO
  iapply Hp; iempintro

/-! ## Copies sent -/

/-- A copy starts from its two duties, its share of the send buffer and the slot it goes to. -/
def copyA (c : Dev nD) (j : Fin 7) : sProp 𝕄 :=
  iprop(dutyTok ER (sendCell c j) 0 0 ∗ dutyTok ER (recvCell (tgt c j) j) 0 0 ∗ sendPts x c (shareTok fullShare 7 j)
    ∗ ∃ f, slotPts (F := F) (tgt c j) j f)
/-- It leaves the right to wait for it. -/
def copyB (c : Dev nD) (j : Fin 7) : sProp 𝕄 := cred (tallyAt (sendCell c j) () N)
/-- Before copy `k`. -/
def sending (k : ℕ) : sProp 𝕄 := iprop(owesE c (owedRecv c k) ∗ prog k (copyA x c) (copyB (F := F) c))

/-- One copy sent. -/
theorem copy_step (j : Fin 7) (i : ℕ) (hi : j.val = i) (n : Dev nD) (hn : n = tgt c j)
    {hsc : (slotM j : Memref sig (Dev.tc n : Thread nD τ).2.kind .vmem S2x512 .f32).view.ref.isScScratch = false}
    {hsrc : (bM : Memref sig .tc .vmem S2x512 .f32).view.WordExact} {hdst : (slotM j).view.WordExact}
    {hsem : DmaTarget.Typed .vmem (.dma (recvS j)) (.remote (Dev.tc n : Thread nD τ) (slotM j : Memref sig .tc .vmem S2x512 .f32) (.dma (sendS j)) hsc)}
    {k : PUnit → Prog (TpuEff nD τ sig (Elt F) Λ₀ .tc) α} {Q : α → sProp 𝕄} :
    records x K
      ⊢ iprop(sending x c i -∗ (sending x c (i + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma bM (.remote (Dev.tc n : Thread nD τ) (slotM j) (.dma (sendS j)) hsc) (.dma (recvS j)) hsrc hdst hsem) k) Q) := by
  subst hn hi
  unfold sending owesE
  iintro #Hr ⟨⟨%W, HO⟩, Hp⟩ Hk
  ihave Hp := (prog_step j _ _) $$ Hp
  icases Hp with ⟨Ha, Hp⟩
  unfold copyA
  icases Ha with ⟨HtS, HtR, Hb, ⟨%fd, Hslot⟩⟩
  ihave HS := (records_send x K c j) $$ Hr
  icases HS with ⟨#HinvS, #HrS⟩
  ihave HR := (records_recv x K (tgt c j) j) $$ Hr
  icases HR with ⟨#HinvR, #HrR⟩
  unfold sendPts slotPts
  iapply (Rounds.wp_send_pointsTo 𝒱₀ ER (rd x) (c : Thread nD τ) none (κ₁ := K (c, .inr (.inl j))) (κ₂ := K (tgt c j, .inr (.inr j)))
      (r₁ := 0) (r₂ := 0) (d₁ := 0) (d₂ := 0) (fd := fd)
      (by rw [duties_send]; exact Finset.mem_singleton_self _) (by rw [duties_recv]; exact Finset.mem_singleton_self _)
      () () N (by exact N_slot j) (amount_send x c j 0) (amount_recv x (tgt c j) j 0) (owedRecv c (j.val + 1)) (owedRecv_step c j) (W := W)
      (by rw [payload_send]; unfold sendPay sendPts; exact BI.Entails.refl _)
      (by
        rw [payload_recv]; unfold recvPay slotPts
        refine Entails.of_eq (pointsTo_congr fun i hi => ?_)
        have h := landed_eq x (tgt c j) j fd i hi
        rw [src_tgt] at h
        exact h)) $$ [HO HtS HtR Hb Hslot]
  · isplitr; · iexact HinvS
    isplitr; · iexact HinvR
    isplitl [Hb]; · iexact Hb
    isplitl [Hslot]; · iexact Hslot
    isplitl [HO]; · iexact HO
    isplitl [HtS]; · iexact HtS
    isplitr; · iexact HrS
    isplitl [HtR]; · iexact HtR
    iexact HrR
  iintro ⟨Hc, HO⟩
  iapply Hk
  isplitl [HO]; · iexists W; iexact HO
  iapply Hp
  unfold copyB; iexact Hc

/-! ## Waits -/

/-- The wait for copy `j` to have left starts from the right to wait and the semaphore's place in its round, -/
def leftA (c : Dev nD) (j : Fin 7) : sProp 𝕄 := iprop(cred (tallyAt (sendCell c j) () N) ∗ atPos ER (sendCell c j) 0 ∅ 0)
/-- and leaves the share of the send buffer and the semaphore past its round. -/
def leftB (c : Dev nD) (j : Fin 7) : sProp 𝕄 := iprop(sendPts x c (shareTok fullShare 7 j) ∗ atPos ER (sendCell c j) 1 ∅ 0)
/-- The same for the arrival of copy `j`, -/
def cameA (c : Dev nD) (j : Fin 7) : sProp 𝕄 := iprop(cred (tallyAt (recvCell c j) () N) ∗ atPos ER (recvCell c j) 0 ∅ 0)
/-- which leaves the filled slot. -/
def cameB (c : Dev nD) (j : Fin 7) : sProp 𝕄 := iprop(slotPts c j (landed x c) ∗ atPos ER (recvCell c j) 1 ∅ 0)
/-- Before the wait for copy `k` to have left and the wait for copy `l` to have arrived. -/
def waiting (k l : ℕ) : sProp 𝕄 :=
  iprop(owesE c 0 ∗ prog k (leftA (F := F) c) (leftB x c) ∗ prog l (cameA (F := F) c) (cameB x c))

/-- One wait for a copy to have left. -/
theorem left_step (j : Fin 7) (i : ℕ) (hi : j.val = i) (l : ℕ)
    {h1 : (slotM j).view.WordExact} {h2 : (bM : Memref sig .tc .vmem S2x512 .f32).view.WordExact}
    {k : PUnit → Prog (TpuEff nD τ sig (Elt F) Λ₀ .tc) α} {Q : α → sProp 𝕄} :
    records x K
      ⊢ iprop(waiting x c i l -∗ (waiting x c (i + 1) l -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (sendS j) (slotM j) bM h1 h2) k) Q) := by
  subst hi
  unfold waiting owesE
  iintro #Hr ⟨⟨%W, HO⟩, Hp, Hq⟩ Hk
  ihave Hp := (prog_step j _ _) $$ Hp
  icases Hp with ⟨Ha, Hp⟩
  unfold leftA
  icases Ha with ⟨Hc, Hat⟩
  ihave HS := (records_send x K c j) $$ Hr
  icases HS with ⟨#HinvS, #HrS⟩
  iapply (Rounds.wp_wait_rest_token 𝒱₀ ER (rd x) (c : Thread nD τ) none (κ := K (c, .inr (.inl j)))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iexact HinvS
    isplitl [Hc]; · iexact Hc
    isplitl [HO]; · iexact HO
    isplitr; · rw [MayWait_zero]; iempintro
    iexact Hat
  iintro ⟨HO, Hat, -, Hpay⟩
  ihave Hb := (Entails.of_eq (rest_send x c j)) $$ Hpay
  iapply Hk
  isplitl [HO]; · iexists _; iexact HO
  isplitl [Hp Hb Hat]
  · iapply Hp
    unfold leftB sendPay
    isplitl [Hb] <;> iassumption
  iexact Hq

/-- One wait for a copy to have arrived. -/
theorem came_step (k' : ℕ) (j : Fin 7) (i : ℕ) (hi : j.val = i)
    {h1 : (bM : Memref sig .tc .vmem S2x512 .f32).view.WordExact} {h2 : (slotM j).view.WordExact}
    {k : PUnit → Prog (TpuEff nD τ sig (Elt F) Λ₀ .tc) α} {Q : α → sProp 𝕄} :
    records x K
      ⊢ iprop(waiting x c k' i -∗ (waiting x c k' (i + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (recvS j) bM (slotM j) h1 h2) k) Q) := by
  subst hi
  unfold waiting owesE
  iintro #Hr ⟨⟨%W, HO⟩, Hp, Hq⟩ Hk
  ihave Hq := (prog_step j _ _) $$ Hq
  icases Hq with ⟨Ha, Hq⟩
  unfold cameA
  icases Ha with ⟨Hc, Hat⟩
  ihave HS := (records_recv x K c j) $$ Hr
  icases HS with ⟨#HinvR, #HrR⟩
  iapply (Rounds.wp_wait_rest_token 𝒱₀ ER (rd x) (c : Thread nD τ) none (κ := K (c, .inr (.inr j))) (k' := N)
      (fun K' => by rw [← N_slot j]; exact wpE_waitDma2_eq 𝒱₀ (c : Thread nD τ) none Set.univ K') (Set.mem_univ _) () (O := 0) (W := W) (R := 0) (m := 0) (T := ∅)
      (by rw [Nat.zero_add, expect_recv])) $$ [Hc HO Hat]
  · isplitr; · iexact HinvR
    isplitl [Hc]; · iexact Hc
    isplitl [HO]; · iexact HO
    isplitr; · rw [MayWait_zero]; iempintro
    iexact Hat
  iintro ⟨HO, Hat, -, Hpay⟩
  ihave Hb := (Entails.of_eq (rest_recv x c j)) $$ Hpay
  iapply Hk
  isplitl [HO]; · iexists _; iexact HO
  isplitl [Hp]; · iexact Hp
  iapply Hq
  unfold cameB recvPay
  isplitl [Hb] <;> iassumption

/-! ## Loads of what has arrived -/

/-- Row `r` of slot `j` as a load reads it. -/
def rowAt (c : Dev nD) (j : Fin 7) (r : Fin 2) : Vec F S1x1x512 .f32 :=
  (rM : Memref sig .tc .vmem S7x2x512 .f32).view.readAt (Elt F) (rowRect j r).toLoadRect (landed x c)

/-- One load of a row of a slot that has arrived. -/
theorem row_step (k' l : ℕ) (j : Fin 7) (r : Fin 2) (hj : j.val < l)
    {h1 : (rM : Memref sig .tc .vmem S7x2x512 .f32).view.LoadsAt (rowRect j r).toLoadRect}
    {k : Vec F S1x1x512 .f32 → Prog (TpuEff nD τ sig (Elt F) Λ₀ .tc) α} {Q : α → sProp 𝕄} :
    waiting x c k' l
      ⊢ iprop((waiting x c k' l -∗ wp frame (wpE (defs₀ (F := F)) 𝒱₀ (c : Thread nD τ) none) Set.univ (k (rowAt x c j r)) Q)
          -∗ wp frame (wpE (defs₀ (F := F)) 𝒱₀ (c : Thread nD τ) none) Set.univ
              (.op (.load rM (rowRect j r).toLoadRect h1) k) Q) := by
  unfold waiting
  iintro ⟨HO, Hp, Hq⟩ Hk
  ihave Hq := (prog_look l j hj _ _) $$ Hq
  icases Hq with ⟨Hb, Hq⟩
  unfold cameB slotPts
  icases Hb with ⟨Hs, Hat⟩
  iapply (wp_load 𝒱₀ (c : Thread nD τ) none Set.univ (m := rM) (row_subset j r)) $$ Hs; iintro Hs
  iapply Hk
  isplitl [HO]; · iexact HO
  isplitl [Hp]; · iexact Hp
  iapply Hq
  isplitl [Hs] <;> iassumption

end Ops

end Cert.Exchange

end
-- ==== Proof.Rows.lean ====
/-
# Two rows stored one after the other

The send buffer and the result both have two rows of 512, and the kernel fills each by two stores. Whatever the
buffer held, it then holds these rows.
-/
module

public import proofs.«01_k».proof.Proof.Steps
public import Idealize.ShloMosaic.Lib.Writes

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3)

attribute [local instance] Cert.KernelIdeal.Gen.facts

variable {F : FTy → Type} [FloatOps F]

local notation "𝕄" => MT nD τ sig Unit (Elt F) ℕ UU ℕ

/-- The first row of a two-row buffer. -/
abbrev row0 : Rect S2x512 := Rect.unit (s := S2x512) ![0, 0] S1x512.size inb_S2x512_S1x512_0_0
/-- The second row. -/
abbrev row1 : Rect S2x512 := Rect.unit (s := S2x512) ![1, 0] S1x512.size inb_S2x512_S1x512_1_0

/-- The array with these two rows. -/
def twoRows (v0 v1 : Vec F S1x512 .f32) : Vec F S2x512 .f32 := fun i =>
  if (i 0).val = 0 then v0 (ix2 (0 : Fin 1) (i 1)) else v1 (ix2 (0 : Fin 1) (i 1))

/-- Both rows stored, the buffer reads as these two rows. -/
theorem read_twoRows (M : Memref sig .tc .vmem S2x512 .f32) (f : M.view.ty.Contents (Elt F)) (v0 v1 : Vec F S1x512 .f32) :
    M.view.read (Elt F) ((M.access row1).write (Elt F) ((M.access row0).write (Elt F) f v0 Finset.univ) v1 Finset.univ)
      = twoRows v0 v1 := by
  funext y
  show M.view.read (Elt F) (M.view.writes (Elt F) f [⟨row1, v1⟩, ⟨row0, v0⟩]) y = _
  have h1 : (y 1).val < 512 := (y 1).isLt
  by_cases h : (y 0).val = 0
  · refine (View.read_writes_cons_miss_of_axis M.view f ⟨row1, v1⟩ _ y 0 1 1 rfl rfl rfl (Or.inl (by omega))).trans ?_
    refine (View.read_writes_cons_hit_of_coords M.view f row0 v0 [] (ix2 (0 : Fin 1) (y 1)) y fun a => ?_).trans ?_
    · match a with
      | ⟨0, _⟩ => exact h
      | ⟨1, _⟩ => show (y 1).val = 0 + 1 * (y 1).val; omega
    · unfold twoRows; rw [if_pos h]
  · have h0 : (y 0).val < 2 := (y 0).isLt
    refine (View.read_writes_cons_hit_of_coords M.view f row1 v1 _ (ix2 (0 : Fin 1) (y 1)) y fun a => ?_).trans ?_
    · match a with
      | ⟨0, _⟩ => show (y 0).val = 1 + 1 * 0; omega
      | ⟨1, _⟩ => show (y 1).val = 0 + 1 * (y 1).val; omega
    · unfold twoRows; rw [if_neg h]

/-- The kernel's load and store of row 0, then of row 1, of a buffer held whole. -/
theorem rows_step (c : Dev nD) (M : Memref sig .tc .vmem S2x512 .f32) {α : Type}
    {l0 : M.view.LoadsAt row0.toLoadRect} {l1 : M.view.LoadsAt row1.toLoadRect}
    {s0 : (M.access row0).Stores Finset.univ} {s1 : (M.access row1).Stores Finset.univ}
    {m0 : Finset.univ = (Finset.univ : Finset row0.shape.Idx) ∨ ∀ a, row0.stride a = 1}
    {m1 : Finset.univ = (Finset.univ : Finset row1.shape.Idx) ∨ ∀ a, row1.stride a = 1}
    (f : Buf (Elt F) (M.view.loc (c : Thread nD τ))) (v0 v1 : Vec F S1x512 .f32)
    {k : PUnit → Prog (TpuEff nD τ sig (Elt F) Λ₀ .tc) α} {Q : α → sProp 𝕄} :
    (M.view.loc (c : Thread nD τ) ↦{fullShare} f)
      ⊢ iprop((∀ g, ⌜M.view.read (Elt F) g = twoRows v0 v1⌝ -∗ (M.view.loc (c : Thread nD τ) ↦{fullShare} g)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load M row0.toLoadRect l0) fun _ => .op (.store M row0 v0 Finset.univ s0 m0) fun _ =>
                .op (.load M row1.toLoadRect l1) fun _ => .op (.store M row1 v1 Finset.univ s1 m1) k) Q) := by
  iintro Hb Hk
  iapply (wp_load 𝒱₀ (c : Thread nD τ) none Set.univ (m := M) (Finset.subset_univ _)) $$ Hb; iintro Hb
  iapply (wp_store 𝒱₀ (c : Thread nD τ) none Set.univ (m := M) (r := row0) (Mk := Finset.univ) (Finset.subset_univ _)) $$ Hb; iintro Hb
  iapply (wp_load 𝒱₀ (c : Thread nD τ) none Set.univ (m := M) (Finset.subset_univ _)) $$ Hb; iintro Hb
  iapply (wp_store 𝒱₀ (c : Thread nD τ) none Set.univ (m := M) (r := row1) (Mk := Finset.univ) (Finset.subset_univ _)) $$ Hb; iintro Hb
  iapply Hk $$ [] Hb
  ipureintro; exact read_twoRows M f v0 v1

end Cert.Exchange

end
-- ==== Proof.Parts.lean ====
/-
# The pieces of the kernel body

The kernel's body is printed in nine pieces and a tail. One theorem for each piece says how far it takes the
exchange and what it computes; each is its steps in the order of the text.
-/
module

public import proofs.«01_k».proof.Proof.Rows

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)
open Idealize.ShloMosaic.Transfers (shareTok shareDrop)

attribute [local instance] Cert.KernelIdeal.Gen.facts

variable {F : FTy → Type} [FloatOps F]

local notation "𝕄" => MT nD τ sig Unit (Elt F) ℕ UU ℕ

variable (x : Dev nD → Vec F S1024x512 .f32) (K : Dev nD × Cell → ℕ) (c : Dev nD)

/-! ## What the kernel computes -/

/-- Comparing the best so far with what slot `j` holds: the larger value, between equals the smaller row number. -/
def merge (b : FVec F S512 .f32 × FVec F S512 .f32) (j : Fin 7) : FVec F S512 .f32 × FVec F S512 .f32 :=
  (k0_pay12 b.1 b.2 (rowAt x c j 0) (rowAt x c j 1), k0_pay13 b.1 b.2 (rowAt x c j 0) (rowAt x c j 1))

/-- The best of the device's own block and the first `n` slots. -/
def best : ℕ → FVec F S512 .f32 × FVec F S512 .f32
  | 0 => (k0_pay5 (x c), k0_pay6 (word c) (x c))
  | n + 1 => merge x c (best n) (Fin.ofNat 7 n)

/-- The kernel's result on device `c`. -/
def outAt : Vec F S2x512 .f32 :=
  twoRows (shapeCast S1x512 (best x c 7).1 shapeCasts_S512_S1x512) (shapeCast S1x512 (best x c 7).2 shapeCasts_S512_S1x512)

/-- What the two stores put into the send buffer is what the device sends. -/
theorem sent_eq : twoRows (k0_pay7 (x c)) (k0_pay8 (word c) (x c)) = sent x c := by
  funext i
  exact congrArg₂ (fun a b => if (i 0).val = 0 then a else b) (ValueIdx.shapeCast_a_1a_apply (k0_pay5 (x c)) _ _ (i 1))
    (ValueIdx.shapeCast_a_1a_apply (k0_pay6 (word c) (x c)) _ _ (i 1))

/-! ## The pieces -/

/-- Piece 1: the first five signals. -/
theorem part1_spec (Kt : (Σ' (d0 : Dev nD) (v2 : BitVec 32) (v3 : Sems sig S_) (v24 : BitVec 32), BitVec 32) → sProp 𝕄) :
    iprop(records x K ∗ signalling c 0
        ∗ (signalling c 5 -∗ Kt ⟨c, word c, SemArray.scalar (sig.barrier 0 rfl), Scalar.addi (word c) 6#32, 8#32⟩))
      ⊢ wp frame (wpE (defs₀ (F := F)) 𝒱₀ (c : Thread nD τ) none) Set.univ
          (k0_part1 xM (Memref.isWhole_whole _) oM (Memref.isWhole_whole _) bM (Memref.isWhole_whole _) rM (Memref.isWhole_whole _)
            cc0_scratch2 cc0_scratch3) Kt := by
  rw [k0_part1_eq_skeleton]; unfold k0_part1_skel
  simp only [semSignalWord, Prog.lift, Prog.bind_op, Prog.bind_ret, Prog.pure_eq_ret, wp_deviceId]
  iintro ⟨#Hr, Hs, Hk⟩
  iapply (signal_step x K c 0 0 rfl _ (Fin.ext (k0_dev1_eq c))) $$ Hr Hs; iintro Hs
  iapply (signal_step x K c 1 1 rfl _ (Fin.ext (k0_dev2_eq c))) $$ Hr Hs; iintro Hs
  iapply (signal_step x K c 2 2 rfl _ (Fin.ext (k0_dev3_eq c))) $$ Hr Hs; iintro Hs
  iapply (signal_step x K c 3 3 rfl _ (Fin.ext (k0_dev4_eq c))) $$ Hr Hs; iintro Hs
  iapply (signal_step x K c 4 4 rfl _ (Fin.ext (k0_dev5_eq c))) $$ Hr Hs; iintro Hs
  rw [wp_ret]; imodintro
  iapply Hk; iexact Hs

/-- The two duties of each copy. -/
def copyTok (j : Fin 7) : sProp 𝕄 := iprop(dutyTok ER (sendCell c j) 0 0 ∗ dutyTok ER (recvCell (tgt c j) j) 0 0)

/-- One copy's duties, its share of the send buffer and its slot are what it starts from. -/
theorem copy_intro (j : Fin 7) :
    iprop(copyTok (F := F) c j ∗ sendPts x c (shareTok fullShare 7 j) ∗ barPay (F := F) c j) ⊢ copyA x c j := by
  unfold copyTok copyA barPay
  iintro ⟨⟨H1, H2⟩, H3, H4⟩
  isplitl [H1]; · iexact H1
  isplitl [H2]; · iexact H2
  isplitl [H3] <;> iassumption

/-- Duties, shares of the send buffer and slots of the targets together are what the copies start from. -/
theorem copies_intro :
    iprop(bigSep Finset.univ (copyTok (F := F) c) ∗ bigSep Finset.univ (fun j => sendPts x c (shareTok fullShare 7 j))
        ∗ bigSep Finset.univ (barPay (F := F) c))
      ⊢ bigSep Finset.univ (copyA x c) := by
  rw [← bigSep_sep', ← bigSep_sep']
  exact bigSep_mono fun j _ => copy_intro x c j

/-- Piece 2: the last two signals, the device's own maxima and row numbers into the send buffer, and the wait at the
    barrier. -/
theorem part2_spec (v24 c8 : BitVec 32) (f0 : Vec F S2x512 .f32)
    (Kt : (Σ' (v34 : FVec F S512 .f32) (v45 : FVec F S512 .f32) (v53 : BitVec 32), BitVec 32) → sProp 𝕄) :
    iprop(records x K ∗ signalling c 5 ∗ ((xM : Memref sig .tc .vmem S1024x512 .f32).view.loc (c : Thread nD τ) ↦{fullShare} (x c))
        ∗ ((bM : Memref sig .tc .vmem S2x512 .f32).view.loc (c : Thread nD τ) ↦{fullShare} f0)
        ∗ cred (tallyAt (barCell c) () 7) ∗ atPos ER (barCell c) 0 ∅ 0 ∗ levAts L lv ∗ bigSep Finset.univ (copyTok (F := F) c)
        ∗ (∀ r, sending x c 0 -∗ ((xM : Memref sig .tc .vmem S1024x512 .f32).view.loc (c : Thread nD τ) ↦{fullShare} (x c))
            -∗ sendPts x c (shareDrop fullShare 7) -∗ atPos ER (barCell c) 1 ∅ 0 -∗ Kt ⟨k0_pay5 (x c), k0_pay6 (word c) (x c), r⟩))
      ⊢ wp frame (wpE (defs₀ (F := F)) 𝒱₀ (c : Thread nD τ) none) Set.univ
          (k0_part2 xM (Memref.isWhole_whole _) oM (Memref.isWhole_whole _) bM (Memref.isWhole_whole _) rM (Memref.isWhole_whole _)
            cc0_scratch2 cc0_scratch3 c (word c) (SemArray.scalar (sig.barrier 0 rfl)) v24 c8) Kt := by
  rw [k0_part2_eq_skeleton]; unfold k0_part2_skel
  simp only [semSignalWord, semWaitWord, Prog.lift, Prog.bind_op, Prog.bind_ret, Prog.pure_eq_ret]
  iintro ⟨#Hr, Hs, Hx, Hb, Hc, Hat, #Hlev, Htok, Hk⟩
  iapply (signal_step x K c 5 5 rfl _ (Fin.ext (k0_dev6_eq c))) $$ Hr Hs; iintro Hs
  iapply (signal_step x K c 6 6 rfl _ (Fin.ext (k0_dev7_eq c))) $$ Hr Hs; iintro Hs
  iapply (wp_load 𝒱₀ (c : Thread nD τ) none Set.univ (m := xM) (Finset.subset_univ _)) $$ Hx; iintro Hx
  rw [show (xM : Memref sig .tc .vmem S1024x512 .f32).view.readAt (Elt F) (Rect.unit (s := S1024x512) ![0, 0] S1024x512.size inb_S1024x512_S1024x512_0_0).toLoadRect (x c) = x c
    from Memref.readAt_unit_zero (Elt F) cc0_stg0_0 (funext fun a => by fin_cases a <;> rfl) _ _]
  iapply (rows_step c bM f0 (k0_pay7 (x c)) (k0_pay8 (word c) (x c))) $$ Hb; iintro %g %hg Hb
  have hg' : g = sent x c := Eq.trans (show g = (bM : Memref sig .tc .vmem S2x512 .f32).view.read (Elt F) g from (View.read_whole cc0_scratch0 g).symm) (hg.trans (sent_eq x c))
  subst hg'
  unfold signalling owesE
  icases Hs with ⟨⟨%W, HO⟩, -⟩
  ihave HR := (records_bar x K c) $$ Hr
  icases HR with ⟨#Hinv, -⟩
  iapply (Rounds.wp_wait_rest_token 𝒱₀ ER (rd x) (c : Thread nD τ) none (κ := K (c, .inl ()))
      (wpE_semWait_eq 𝒱₀ (c : Thread nD τ) none Set.univ) (Set.mem_univ _) () (O := owedRecv c 0) (W := W) (R := 0) (m := 0) (T := ∅)
      (by rw [expect_bar]; decide)) $$ [Hc HO Hat]
  · isplitr; · iexact Hinv
    isplitl [Hc]; · iexact Hc
    isplitl [HO]; · rw [show owedRecv c 0 + owedBar c (6 + 1) = owedRecv c 0 by rw [owedBar_end, add_zero]]; iexact HO
    isplitr; · iapply (mayWait_bar c 0); iexact Hlev
    iexact Hat
  iintro ⟨HO, Hat, -, Hpay⟩
  ihave Hp := (Entails.of_eq (rest_bar x c)) $$ Hpay
  ihave Hsh := (Transfers.pointsTo_toks_split fullShare 7) $$ Hb
  icases Hsh with ⟨Hrem, Hsh⟩
  rw [wp_ret]; imodintro
  iapply Hk $$ [HO Htok Hsh Hp] Hx [Hrem] Hat
  · unfold sending owesE
    isplitl [HO]; · iexists _; iexact HO
    iapply prog_start
    iapply copies_intro
    isplitl [Htok]; · iexact Htok
    isplitl [Hsh]
    · unfold sendPts; rw [View.set_whole]; iexact Hsh
    iexact Hp
  · unfold sendPts; rw [View.set_whole]; iexact Hrem

/-- Piece 3: copies 0, 1 and 2. -/
theorem part3_spec (v53 c1 : BitVec 32) (Kt : (Σ' (v63 : BitVec 32) (v73 : BitVec 32) (v83 : BitVec 32), BitVec 32) → sProp 𝕄) :
    iprop(records x K ∗ sending x c 0 ∗ (∀ r, sending x c 3 -∗ Kt r))
      ⊢ wp frame (wpE (defs₀ (F := F)) 𝒱₀ (c : Thread nD τ) none) Set.univ
          (k0_part3 xM (Memref.isWhole_whole _) oM (Memref.isWhole_whole _) bM (Memref.isWhole_whole _) rM (Memref.isWhole_whole _)
            cc0_scratch2 cc0_scratch3 c (word c) v53 c1) Kt := by
  rw [k0_part3_eq_skeleton]; unfold k0_part3_skel
  simp only [Prog.lift, Prog.bind_op, Prog.bind_ret, Prog.pure_eq_ret]
  iintro ⟨#Hr, Hs, Hk⟩
  iapply (copy_step x K c 0 0 rfl _ (Fin.ext (k0_dev8_eq c))) $$ Hr Hs; iintro Hs
  iapply (copy_step x K c 1 1 rfl _ (Fin.ext (k0_dev9_eq c))) $$ Hr Hs; iintro Hs
  iapply (copy_step x K c 2 2 rfl _ (Fin.ext (k0_dev10_eq c))) $$ Hr Hs; iintro Hs
  rw [wp_ret]; imodintro
  iapply Hk; iexact Hs

/-- Piece 4: copies 3, 4 and 5. -/
theorem part4_spec (v83 c1 : BitVec 32) (Kt : (Σ' (v93 : BitVec 32) (v103 : BitVec 32) (v113 : BitVec 32), BitVec 32) → sProp 𝕄) :
    iprop(records x K ∗ sending x c 3 ∗ (∀ r, sending x c 6 -∗ Kt r))
      ⊢ wp frame (wpE (defs₀ (F := F)) 𝒱₀ (c : Thread nD τ) none) Set.univ
          (k0_part4 xM (Memref.isWhole_whole _) oM (Memref.isWhole_whole _) bM (Memref.isWhole_whole _) rM (Memref.isWhole_whole _)
            cc0_scratch2 cc0_scratch3 c (word c) v83 c1) Kt := by
  rw [k0_part4_eq_skeleton]; unfold k0_part4_skel
  simp only [Prog.lift, Prog.bind_op, Prog.bind_ret, Prog.pure_eq_ret]
  iintro ⟨#Hr, Hs, Hk⟩
  iapply (copy_step x K c 3 3 rfl _ (Fin.ext (k0_dev11_eq c))) $$ Hr Hs; iintro Hs
  iapply (copy_step x K c 4 4 rfl _ (Fin.ext (k0_dev12_eq c))) $$ Hr Hs; iintro Hs
  iapply (copy_step x K c 5 5 rfl _ (Fin.ext (k0_dev13_eq c))) $$ Hr Hs; iintro Hs
  rw [wp_ret]; imodintro
  iapply Hk; iexact Hs

/-- What the waits start from besides the rights that the copies left. -/
def waitTok : sProp 𝕄 :=
  iprop(bigSep Finset.univ (fun j => atPos ER (sendCell c j) 0 ∅ 0) ∗ bigSep Finset.univ (cameA (F := F) c))

/-- All copies sent, the waits can begin. -/
theorem waiting_intro : iprop(sending x c 7 ∗ waitTok (F := F) c) ⊢ waiting x c 0 0 := by
  unfold sending waitTok waiting
  rw [owedRecv_end]
  iintro ⟨⟨HO, Hp⟩, Hat, Hv⟩
  isplitl [HO]; · iexact HO
  isplitl [Hp Hat]
  · iapply prog_start
    ihave Hp := (prog_end _ _) $$ Hp
    iapply (Entails.of_eq (bigSep_sep' (s := Finset.univ) (Φ := copyB (F := F) c) (Ψ := fun j => atPos ER (sendCell c j) 0 ∅ 0)).symm)
    isplitl [Hp] <;> iassumption
  iapply prog_start; iexact Hv

/-- Piece 5: the last copy; copy 0 has left and the first slot is filled and merged. -/
theorem part5_spec (v53 v113 c1 : BitVec 32) (v34 v45 : FVec F S512 .f32) (Kt : (Σ' (v141 : FVec F S512 .f32), FVec F S512 .f32) → sProp 𝕄) :
    iprop(records x K ∗ (sending x c 6 ∗ waitTok (F := F) c) ∗ (waiting x c 1 1 -∗ Kt ⟨k0_pay12 v34 v45 (rowAt x c 0 0) (rowAt x c 0 1),
            k0_pay13 v34 v45 (rowAt x c 0 0) (rowAt x c 0 1)⟩))
      ⊢ wp frame (wpE (defs₀ (F := F)) 𝒱₀ (c : Thread nD τ) none) Set.univ
          (k0_part5 xM (Memref.isWhole_whole _) oM (Memref.isWhole_whole _) bM (Memref.isWhole_whole _) rM (Memref.isWhole_whole _)
            cc0_scratch2 cc0_scratch3 c v34 v45 v53 v113 c1) Kt := by
  rw [k0_part5_eq_skeleton]; unfold k0_part5_skel
  simp only [Prog.lift, Prog.bind_op, Prog.bind_ret, Prog.pure_eq_ret]
  iintro ⟨#Hr, ⟨Hs, Hw⟩, Hk⟩
  iapply (copy_step x K c 6 6 rfl _ (Fin.ext (k0_dev14_eq c))) $$ Hr Hs; iintro Hs
  ihave Hs := (waiting_intro x c) $$ [Hs Hw]
  · isplitl [Hs] <;> iassumption
  iapply (left_step x K c 0 0 rfl 0) $$ Hr Hs; iintro Hs
  iapply (came_step x K c 1 0 0 rfl) $$ Hr Hs; iintro Hs
  iapply (row_step x c 1 1 0 0 (by decide)) $$ Hs; iintro Hs
  iapply (row_step x c 1 1 0 1 (by decide)) $$ Hs; iintro Hs
  rw [wp_ret]; imodintro
  iapply Hk; iexact Hs

/-- Piece 6: slot 1. -/
theorem part6_spec (v63 v73 : BitVec 32) (v141 v142 : FVec F S512 .f32) (Kt : (Σ' (v141 : FVec F S512 .f32), FVec F S512 .f32) → sProp 𝕄) :
    iprop(records x K ∗ waiting x c 1 1 ∗ (waiting x c 3 2 -∗ Kt ⟨k0_pay17 v141 v142 (rowAt x c 1 0) (rowAt x c 1 1),
            k0_pay18 v141 v142 (rowAt x c 1 0) (rowAt x c 1 1)⟩))
      ⊢ wp frame (wpE (defs₀ (F := F)) 𝒱₀ (c : Thread nD τ) none) Set.univ
          (k0_part6 xM (Memref.isWhole_whole _) oM (Memref.isWhole_whole _) bM (Memref.isWhole_whole _) rM (Memref.isWhole_whole _)
            cc0_scratch2 cc0_scratch3 v63 v73 v141 v142) Kt := by
  rw [k0_part6_eq_skeleton]; unfold k0_part6_skel
  simp only [Prog.lift, Prog.bind_op, Prog.bind_ret, Prog.pure_eq_ret]
  iintro ⟨#Hr, Hs, Hk⟩
  iapply (left_step x K c 1 1 rfl 1) $$ Hr Hs; iintro Hs
  iapply (came_step x K c 2 1 1 rfl) $$ Hr Hs; iintro Hs
  iapply (row_step x c 2 2 1 0 (by decide)) $$ Hs; iintro Hs
  iapply (row_step x c 2 2 1 1 (by decide)) $$ Hs; iintro Hs
  iapply (left_step x K c 2 2 rfl 2) $$ Hr Hs; iintro Hs
  rw [wp_ret]; imodintro
  iapply Hk; iexact Hs

/-- Piece 7: slots 2 and 3. -/
theorem part7_spec (v83 : BitVec 32) (v162 v163 : FVec F S512 .f32) (Kt : (Σ' (v141 : FVec F S512 .f32), FVec F S512 .f32) → sProp 𝕄) :
    iprop(records x K ∗ waiting x c 3 2 ∗ (waiting x c 4 4 -∗ Kt ⟨k0_pay27 v162 v163 (rowAt x c 2 0) (rowAt x c 2 1) (rowAt x c 3 0) (rowAt x c 3 1),
            k0_pay28 v162 v163 (rowAt x c 2 0) (rowAt x c 2 1) (rowAt x c 3 0) (rowAt x c 3 1)⟩))
      ⊢ wp frame (wpE (defs₀ (F := F)) 𝒱₀ (c : Thread nD τ) none) Set.univ
          (k0_part7 xM (Memref.isWhole_whole _) oM (Memref.isWhole_whole _) bM (Memref.isWhole_whole _) rM (Memref.isWhole_whole _)
            cc0_scratch2 cc0_scratch3 v83 v162 v163) Kt := by
  rw [k0_part7_eq_skeleton]; unfold k0_part7_skel
  simp only [Prog.lift, Prog.bind_op, Prog.bind_ret, Prog.pure_eq_ret]
  iintro ⟨#Hr, Hs, Hk⟩
  iapply (came_step x K c 3 2 2 rfl) $$ Hr Hs; iintro Hs
  iapply (row_step x c 3 3 2 0 (by decide)) $$ Hs; iintro Hs
  iapply (row_step x c 3 3 2 1 (by decide)) $$ Hs; iintro Hs
  iapply (left_step x K c 3 3 rfl 3) $$ Hr Hs; iintro Hs
  iapply (came_step x K c 4 3 3 rfl) $$ Hr Hs; iintro Hs
  iapply (row_step x c 4 4 3 0 (by decide)) $$ Hs; iintro Hs
  iapply (row_step x c 4 4 3 1 (by decide)) $$ Hs; iintro Hs
  rw [wp_ret]; imodintro
  iapply Hk; iexact Hs

/-- Piece 8: slot 4. -/
theorem part8_spec (v93 v103 : BitVec 32) (v204 v205 : FVec F S512 .f32) (Kt : (Σ' (v141 : FVec F S512 .f32), FVec F S512 .f32) → sProp 𝕄) :
    iprop(records x K ∗ waiting x c 4 4 ∗ (waiting x c 6 5 -∗ Kt ⟨k0_pay32 v204 v205 (rowAt x c 4 0) (rowAt x c 4 1),
            k0_pay33 v204 v205 (rowAt x c 4 0) (rowAt x c 4 1)⟩))
      ⊢ wp frame (wpE (defs₀ (F := F)) 𝒱₀ (c : Thread nD τ) none) Set.univ
          (k0_part8 xM (Memref.isWhole_whole _) oM (Memref.isWhole_whole _) bM (Memref.isWhole_whole _) rM (Memref.isWhole_whole _)
            cc0_scratch2 cc0_scratch3 v93 v103 v204 v205) Kt := by
  rw [k0_part8_eq_skeleton]; unfold k0_part8_skel
  simp only [Prog.lift, Prog.bind_op, Prog.bind_ret, Prog.pure_eq_ret]
  iintro ⟨#Hr, Hs, Hk⟩
  iapply (left_step x K c 4 4 rfl 4) $$ Hr Hs; iintro Hs
  iapply (came_step x K c 5 4 4 rfl) $$ Hr Hs; iintro Hs
  iapply (row_step x c 5 5 4 0 (by decide)) $$ Hs; iintro Hs
  iapply (row_step x c 5 5 4 1 (by decide)) $$ Hs; iintro Hs
  iapply (left_step x K c 5 5 rfl 5) $$ Hr Hs; iintro Hs
  rw [wp_ret]; imodintro
  iapply Hk; iexact Hs

/-- Piece 9: slot 5, and slot 6 but for its merging. -/
theorem part9_spec (v113 : BitVec 32) (v225 v226 : FVec F S512 .f32) (Kt : (Σ' (v246 : FVec F S512 .f32) (v247 : FVec F S512 .f32) (v259 : FVec F S512 .f32) (v261 : FVec F S512 .f32), IVec S512 1) → sProp 𝕄) :
    iprop(records x K ∗ waiting x c 6 5 ∗ (waiting x c 7 7 -∗ Kt ⟨k0_pay37 v225 v226 (rowAt x c 5 0) (rowAt x c 5 1), k0_pay38 v225 v226 (rowAt x c 5 0) (rowAt x c 5 1),
            k0_pay39 (rowAt x c 6 0), k0_pay40 (rowAt x c 6 1), k0_pay41 v225 v226 (rowAt x c 5 0) (rowAt x c 5 1) (rowAt x c 6 0)⟩))
      ⊢ wp frame (wpE (defs₀ (F := F)) 𝒱₀ (c : Thread nD τ) none) Set.univ
          (k0_part9 xM (Memref.isWhole_whole _) oM (Memref.isWhole_whole _) bM (Memref.isWhole_whole _) rM (Memref.isWhole_whole _)
            cc0_scratch2 cc0_scratch3 v113 v225 v226) Kt := by
  rw [k0_part9_eq_skeleton]; unfold k0_part9_skel
  simp only [Prog.lift, Prog.bind_op, Prog.bind_ret, Prog.pure_eq_ret]
  iintro ⟨#Hr, Hs, Hk⟩
  iapply (came_step x K c 6 5 5 rfl) $$ Hr Hs; iintro Hs
  iapply (row_step x c 6 6 5 0 (by decide)) $$ Hs; iintro Hs
  iapply (row_step x c 6 6 5 1 (by decide)) $$ Hs; iintro Hs
  iapply (left_step x K c 6 6 rfl 6) $$ Hr Hs; iintro Hs
  iapply (came_step x K c 7 6 6 rfl) $$ Hr Hs; iintro Hs
  iapply (row_step x c 7 7 6 0 (by decide)) $$ Hs; iintro Hs
  iapply (row_step x c 7 7 6 1 (by decide)) $$ Hs; iintro Hs
  rw [wp_ret]; imodintro
  iapply Hk; iexact Hs

end Cert.Exchange

end
-- ==== Proof.Body.lean ====
/-
# The kernel body

The nine pieces in a row and the two stores of the result; then what is left when the body ends: every buffer whole
again and every semaphore at zero.
-/
module

public import proofs.«01_k».proof.Proof.Parts

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)
open Idealize.ShloMosaic.Transfers (shareTok shareDrop)

attribute [local instance] Cert.KernelIdeal.Gen.facts

variable {F : FTy → Type} [FloatOps F]

local notation "𝕄" => MT nD τ sig Unit (Elt F) ℕ UU ℕ

variable (x : Dev nD → Vec F S1024x512 .f32) (K : Dev nD × Cell → ℕ) (c : Dev nD)

/-! ## What the end leaves -/

omit [FloatOps F] in
/-- Something for each semaphore of a device: for the barrier, the send ones and the receive ones. -/
theorem cells_eq (Φ : Cell → sProp 𝕄) :
    bigSep Finset.univ Φ
      = iprop(Φ (.inl ()) ∗ bigSep Finset.univ (fun j => Φ (.inr (.inl j))) ∗ bigSep Finset.univ (fun j => Φ (.inr (.inr j)))) := by
  rw [bigSep_univ_sum, bigSep_univ_sum, bigSep_univ_of_subsingleton ()]; rfl

/-- One semaphore past its round closes. -/
theorem close_intro (k : Cell) :
    iprop(records x K ∗ atPos ER (kcell (c, k)) 1 ∅ 0)
      ⊢ iprop(cellInv ER (rd x) (K (c, k)) (kcell (c, k)) ∗ atPos ER (kcell (c, k)) 1 ∅ 0) := by
  iintro ⟨#Hr, Hat⟩
  ihave HR := (records_at x K (c, k)) $$ Hr
  icases HR with ⟨#Hinv, -⟩
  isplitr; · iexact Hinv
  iexact Hat

/-- Every semaphore of the device past its round: all of them are at zero. -/
theorem close_all :
    iprop(records x K ∗ bigSep Finset.univ fun k => atPos ER (kcell (c, k)) 1 ∅ 0)
      ⊢ |={Set.univ}=> bigSep Finset.univ fun k : Cell => semVal (kcell (c, k)) 0 :=
  (bigSep_with_persistent fun k _ => close_intro x K c k).trans
    (Rounds.cells_close ER (rd x) Finset.univ (fun k => kcell (c, k)) (fun k => K (c, k)) (fun _ _ => Set.mem_univ _)
      (fun _ _ h => h) (fun _ => 1) (fun k _ => duties_later x (kcell (c, k))))

/-- All shares of the send buffer are the whole of it. -/
theorem sendPts_join :
    iprop(sendPts x c (shareDrop fullShare 7) ∗ bigSep Finset.univ (fun j => sendPts x c (shareTok fullShare 7 j)))
      ⊢ ((bM : Memref sig .tc .vmem S2x512 .f32).view.loc (c : Thread nD τ) ↦{fullShare} (sent x c)) := by
  unfold sendPts; rw [View.set_whole]
  exact Transfers.pointsTo_toks_join fullShare 7

omit [FloatOps F] in
/-- The whole receive buffer is its slots. -/
theorem slots_eq (f : Vec F S7x2x512 .f32) :
    ((rM : Memref sig .tc .vmem S7x2x512 .f32).view.loc (c : Thread nD τ) ↦{fullShare} f : sProp 𝕄)
      = bigSep Finset.univ fun j => slotPts c j f := by
  unfold slotPts
  refine Ring.pointsTo_blocks (ℓ := (rM : Memref sig .tc .vmem S7x2x512 .f32).view.loc (c : Thread nD τ))
    (fun j => (slotM j).view.set) (fun j j' h => ?_) ?_ f
  · exact slot_disjoint j j' h
  · refine Finset.eq_univ_iff_forall.mpr fun i => Finset.mem_biUnion.mpr ?_
    obtain ⟨j, hj, hi⟩ := Finset.mem_biUnion.mp (Finset.eq_univ_iff_forall.mp slot_cover i)
    exact ⟨j, hj, hi⟩

/-- What the body leaves: the scratch buffers whole and the semaphores at zero. -/
def ended : sProp 𝕄 :=
  iprop((∃ f : Vec F S2x512 .f32, (bM : Memref sig .tc .vmem S2x512 .f32).view.loc (c : Thread nD τ) ↦{fullShare} f)
    ∗ (∃ f : Vec F S7x2x512 .f32, (rM : Memref sig .tc .vmem S7x2x512 .f32).view.loc (c : Thread nD τ) ↦{fullShare} f)
    ∗ bigSep Finset.univ fun k : Cell => semVal (kcell (c, k)) 0)

/-- All waits done, everything is whole again. -/
theorem ended_intro :
    iprop(records x K ∗ waiting x c 7 7 ∗ sendPts x c (shareDrop fullShare 7) ∗ atPos ER (barCell c) 1 ∅ 0)
      ⊢ |={Set.univ}=> iprop(owesE (F := F) c 0 ∗ ended (F := F) c) := by
  unfold waiting
  iintro ⟨#Hr, ⟨HO, Hp, Hq⟩, Hb, Hbar⟩
  ihave Hp := (prog_end _ _) $$ Hp
  ihave Hq := (prog_end _ _) $$ Hq
  unfold leftB cameB
  ihave Hp := (Entails.of_eq (bigSep_sep' (s := Finset.univ) _ _)) $$ Hp
  ihave Hq := (Entails.of_eq (bigSep_sep' (s := Finset.univ) _ _)) $$ Hq
  icases Hp with ⟨Hsh, Hsat⟩
  icases Hq with ⟨Hsl, Hrat⟩
  imod (close_all x K c) $$ [Hbar Hsat Hrat] with Hz
  · isplitr; · iexact Hr
    iapply (Entails.of_eq (cells_eq (F := F) fun k => atPos ER (kcell (c, k)) 1 ∅ 0).symm)
    isplitl [Hbar]; · iexact Hbar
    isplitl [Hsat]; · iexact Hsat
    iexact Hrat
  imodintro
  unfold ended
  isplitl [HO]; · iexact HO
  isplitl [Hb Hsh]
  · iexists (sent x c)
    iapply (sendPts_join x c)
    isplitl [Hb] <;> iassumption
  isplitl [Hsl]
  · iexists (landed x c)
    iapply (Entails.of_eq (slots_eq c (landed x c)).symm)
    iexact Hsl
  iexact Hz

/-! ## The value -/

section Value
variable (a b : FVec F S512 .f32) (v i v' i' : Vec F S1x1x512 .f32)

/-! Each of the kernel's merges is the same operation. -/

theorem pay17_eq : k0_pay17 a b v i = k0_pay12 a b v i := rfl
theorem pay18_eq : k0_pay18 a b v i = k0_pay13 a b v i := rfl
theorem pay27_eq : k0_pay27 a b v i v' i' = k0_pay12 (k0_pay12 a b v i) (k0_pay13 a b v i) v' i' := rfl
theorem pay28_eq : k0_pay28 a b v i v' i' = k0_pay13 (k0_pay12 a b v i) (k0_pay13 a b v i) v' i' := rfl
theorem pay32_eq : k0_pay32 a b v i = k0_pay12 a b v i := rfl
theorem pay33_eq : k0_pay33 a b v i = k0_pay13 a b v i := rfl
theorem pay37_eq : k0_pay37 a b v i = k0_pay12 a b v i := rfl
theorem pay38_eq : k0_pay38 a b v i = k0_pay13 a b v i := rfl
theorem pay41_eq : k0_pay41 a b v i v' = cmpf .ogt (k0_pay39 v') (k0_pay12 a b v i) := rfl
theorem pay2_eq : k0_pay2 a b (k0_pay39 v) (k0_pay40 i) (cmpf .ogt (k0_pay39 v) a)
    = shapeCast S1x512 (k0_pay12 a b v i) shapeCasts_S512_S1x512 := rfl
theorem pay3_eq : k0_pay3 a b (k0_pay39 v) (k0_pay40 i) (cmpf .ogt (k0_pay39 v) a)
    = shapeCast S1x512 (k0_pay13 a b v i) shapeCasts_S512_S1x512 := rfl

end Value

/-- With no slot, the best are the device's own maxima -/
theorem best_fst_zero : k0_pay5 (x c) = (best x c 0).1 := by rw [best]
/-- and their row numbers. -/
theorem best_snd_zero : k0_pay6 (word c) (x c) = (best x c 0).2 := by rw [best]
/-- One more merge gives the best of one more slot: the values, -/
theorem best_fst (n : ℕ) (j : Fin 7) (hj : j = Fin.ofNat 7 n) :
    k0_pay12 (best x c n).1 (best x c n).2 (rowAt x c j 0) (rowAt x c j 1) = (best x c (n + 1)).1 := by subst hj; rfl
/-- and the row numbers. -/
theorem best_snd (n : ℕ) (j : Fin 7) (hj : j = Fin.ofNat 7 n) :
    k0_pay13 (best x c n).1 (best x c n).2 (rowAt x c j 0) (rowAt x c j 1) = (best x c (n + 1)).2 := by subst hj; rfl

/-! ## The body -/

set_option maxHeartbeats 1000000 in
/-- The body of device `c` stores the result into the output buffer, and leaves everything else as the exchange ends. -/
theorem body_spec (f0 : Vec F S2x512 .f32) (g0 : Vec F S2x512 .f32) (Kt : PUnit → sProp 𝕄) :
    iprop(records x K ∗ signalling c 0 ∗ ((xM : Memref sig .tc .vmem S1024x512 .f32).view.loc (c : Thread nD τ) ↦{fullShare} (x c))
        ∗ ((bM : Memref sig .tc .vmem S2x512 .f32).view.loc (c : Thread nD τ) ↦{fullShare} f0)
        ∗ ((oM : Memref sig .tc .vmem S2x512 .f32).view.loc (c : Thread nD τ) ↦{fullShare} g0)
        ∗ cred (tallyAt (barCell c) () 7) ∗ atPos ER (barCell c) 0 ∅ 0 ∗ levAts L lv ∗ bigSep Finset.univ (copyTok (F := F) c)
        ∗ waitTok (F := F) c
        ∗ (owesE (F := F) c 0 -∗ ended (F := F) c
            -∗ ((xM : Memref sig .tc .vmem S1024x512 .f32).view.loc (c : Thread nD τ) ↦{fullShare} (x c))
            -∗ ((oM : Memref sig .tc .vmem S2x512 .f32).view.loc (c : Thread nD τ) ↦{fullShare} (outAt x c)) -∗ Kt ⟨⟩))
      ⊢ wp frame (wpE (defs₀ (F := F)) 𝒱₀ (c : Thread nD τ) none) Set.univ
          (cc0_body xM (Memref.isWhole_whole _) oM (Memref.isWhole_whole _) bM (Memref.isWhole_whole _) rM (Memref.isWhole_whole _)
            cc0_scratch2 cc0_scratch3) Kt := by
  rw [cc0_body_eq_skeleton]; unfold cc0_body_skel
  iintro ⟨#Hr, Hs, Hx, Hb, Ho, Hc, Hat, #Hlev, Htok, Hw, Hk⟩
  rw [wp_bind]
  iapply (part1_spec x K c _)
  isplitr; · iexact Hr
  isplitl [Hs]; · iexact Hs
  iintro Hs
  dsimp only
  rw [wp_bind]
  iapply (part2_spec x K c _ _ f0 _)
  isplitr; · iexact Hr
  isplitl [Hs]; · iexact Hs
  isplitl [Hx]; · iexact Hx
  isplitl [Hb]; · iexact Hb
  isplitl [Hc]; · iexact Hc
  isplitl [Hat]; · iexact Hat
  isplitr; · iexact Hlev
  isplitl [Htok]; · iexact Htok
  iintro %r Hs Hx Hd Hat
  dsimp only
  rw [wp_bind]
  iapply (part3_spec x K c _ _ _)
  isplitr; · iexact Hr
  isplitl [Hs]; · iexact Hs
  iintro %r3 Hs
  rcases r3 with ⟨a1, a2, a3, a4⟩
  dsimp only
  rw [wp_bind]
  iapply (part4_spec x K c _ _ _)
  isplitr; · iexact Hr
  isplitl [Hs]; · iexact Hs
  iintro %r4 Hs
  rcases r4 with ⟨b1, b2, b3, b4⟩
  dsimp only
  rw [wp_bind]
  iapply (part5_spec x K c _ _ _ _ _ _)
  isplitr; · iexact Hr
  isplitl [Hs Hw]; · isplitl [Hs] <;> iassumption
  iintro Hs
  dsimp only
  rw [wp_bind]
  iapply (part6_spec x K c _ _ _ _ _)
  isplitr; · iexact Hr
  isplitl [Hs]; · iexact Hs
  iintro Hs
  dsimp only
  rw [wp_bind]
  iapply (part7_spec x K c _ _ _ _)
  isplitr; · iexact Hr
  isplitl [Hs]; · iexact Hs
  iintro Hs
  dsimp only
  rw [wp_bind]
  iapply (part8_spec x K c _ _ _ _ _)
  isplitr; · iexact Hr
  isplitl [Hs]; · iexact Hs
  iintro Hs
  dsimp only
  rw [wp_bind]
  iapply (part9_spec x K c _ _ _ _)
  isplitr; · iexact Hr
  isplitl [Hs]; · iexact Hs
  iintro Hs
  dsimp only [Prog.lift, Prog.bind_op, Prog.bind_ret, Prog.pure_eq_ret]
  iapply (rows_step c oM g0 _ _) $$ Ho; iintro %g %hg Ho
  rw [pay41_eq, pay37_eq, pay38_eq, pay2_eq, pay3_eq, pay32_eq, pay33_eq, pay27_eq, pay28_eq, pay17_eq, pay18_eq,
    best_fst_zero x c, best_snd_zero x c,
    best_fst x c 0 0 rfl, best_snd x c 0 0 rfl, best_fst x c 1 1 rfl, best_snd x c 1 1 rfl, best_fst x c 2 2 rfl, best_snd x c 2 2 rfl,
    best_fst x c 3 3 rfl, best_snd x c 3 3 rfl, best_fst x c 4 4 rfl, best_snd x c 4 4 rfl, best_fst x c 5 5 rfl, best_snd x c 5 5 rfl,
    best_fst x c 6 6 rfl, best_snd x c 6 6 rfl] at hg
  rw [show g = outAt x c from Eq.trans (show g = (oM : Memref sig .tc .vmem S2x512 .f32).view.read (Elt F) g from (View.read_whole cc0_stg1_0 g).symm) hg]
  imod (ended_intro x K c) $$ [Hs Hd Hat] with ⟨HO, He⟩
  · isplitr; · iexact Hr
    isplitl [Hs]; · iexact Hs
    isplitl [Hd] <;> iassumption
  rw [wp_ret]; imodintro
  iapply Hk $$ HO He Hx Ho

end Cert.Exchange

end
-- ==== Proof.Deal.lean ====
/-
# What the launch deals out

At the launch all semaphores are at zero and no duty is paid. This module deals each device its places in the
rounds, the duties it pays and the rights to the waits it makes, and adds up what the devices owe a semaphore: as
much as its owner waits for.
-/
module

public import proofs.«01_k».proof.Proof.Body

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)
open Idealize.ShloMosaic.Transfers (shareTok shareDrop)

attribute [local instance] Cert.KernelIdeal.Gen.facts

variable {F : FTy → Type} [FloatOps F]

local notation "𝕄" => MT nD τ sig Unit (Elt F) ℕ UU ℕ

variable (x : Dev nD → Vec F S1024x512 .f32) (c : Dev nD)

/-! ## What is owed to a semaphore -/

/-- What a wait on each semaphore waits for. -/
def waited : Cell → ℕ := Sum.elim (fun _ => 7) (Sum.elim (fun _ => 0) (fun _ => N))

/-- Different devices and kinds are different semaphores. -/
theorem kcell_inj : Function.Injective kcell := by
  rintro ⟨d, k⟩ ⟨d', k'⟩ h
  have hd : d = d' := congrArg (fun g : GSem nD τ sig => g.1.1) h
  have hk : k = k' := csem_inj (congrArg Prod.snd h)
  rw [hd, hk]

/-- What all devices together owe in signals to a semaphore: seven to a barrier. -/
theorem sum_owedBar (k : Cell) :
    ∑ d, owedBar d 0 (kcell (c, k)) () = match k with | .inl _ => 7 | .inr _ => 0 := by
  have h (d : Dev nD) : owedBar d 0 (kcell (c, k)) () = ∑ j : Fin 7, if c = tgt d j ∧ k = .inl () then 1 else 0 := by
    unfold owedBar
    rw [rest_zero, Finset.sum_apply, Finsupp.finset_sum_apply]
    refine Finset.sum_congr rfl fun j _ => ?_
    rw [tallyAt_apply]
    refine if_congr ⟨fun e => ?_, fun e => ?_⟩ rfl rfl
    · have := kcell_inj (a₁ := (c, k)) (a₂ := (tgt d j, .inl ())) e.1
      exact ⟨congrArg Prod.fst this, congrArg Prod.snd this⟩
    · rw [e.1, e.2]; exact ⟨rfl, rfl⟩
  rw [Finset.sum_congr rfl fun d _ => h d]
  match k with
  | .inl () => clear h; revert c; decide
  | .inr _ => exact Finset.sum_eq_zero fun d _ => Finset.sum_eq_zero fun j _ => if_neg fun e => nomatch e.2

/-- What all devices together owe in arrivals to a semaphore: one copy to a receive semaphore. -/
theorem sum_owedRecv (k : Cell) :
    ∑ d, owedRecv d 0 (kcell (c, k)) () = match k with | .inr (.inr _) => N | _ => 0 := by
  have h (d : Dev nD) : owedRecv d 0 (kcell (c, k)) () = ∑ j : Fin 7, if c = tgt d j ∧ k = .inr (.inr j) then N else 0 := by
    unfold owedRecv
    rw [rest_zero, Finset.sum_apply, Finsupp.finset_sum_apply]
    refine Finset.sum_congr rfl fun j _ => ?_
    rw [tallyAt_apply]
    refine if_congr ⟨fun e => ?_, fun e => ?_⟩ rfl rfl
    · have := kcell_inj (a₁ := (c, k)) (a₂ := (tgt d j, .inr (.inr j))) e.1
      exact ⟨congrArg Prod.fst this, congrArg Prod.snd this⟩
    · rw [e.1, e.2]; exact ⟨rfl, rfl⟩
  rw [Finset.sum_congr rfl fun d _ => h d]
  match k with
  | .inl () => exact Finset.sum_eq_zero fun d _ => Finset.sum_eq_zero fun j _ => if_neg fun e => nomatch e.2
  | .inr (.inl _) => exact Finset.sum_eq_zero fun d _ => Finset.sum_eq_zero fun j _ => if_neg fun e => nomatch e.2
  | .inr (.inr i) =>
    rw [Finset.sum_eq_single (src c i)]
    · rw [Finset.sum_eq_single i]
      · exact if_pos ⟨(tgt_src c i).symm, rfl⟩
      · intro j _ hj; exact if_neg fun e => hj (Sum.inr.inj (Sum.inr.inj e.2)).symm
      · intro hi; exact absurd (Finset.mem_univ _) hi
    · intro d _ hd
      refine Finset.sum_eq_zero fun j _ => if_neg fun e => hd ?_
      obtain ⟨e1, e2⟩ := e
      rw [Sum.inr.inj (Sum.inr.inj e2), e1, src_tgt]
    · intro hi; exact absurd (Finset.mem_univ _) hi

/-- The devices together owe each semaphore what its owner waits for. -/
theorem launch_owed (k : Cell) :
    tallyOn (kcell (c, k)) (launchCredit (Pipeline.owing O₀) 0 (kcell (c, k)))
      = (tallyAt (kcell (c, k)) () (waited k) : CellTallies nD τ sig Unit) := by
  unfold tallyAt
  refine congrArg _ (Finsupp.ext fun u => ?_)
  rw [Pipeline.launchCredit_owing, Finsupp.single_eq_same]
  unfold O₀
  rw [Finset.sum_congr rfl fun d _ => show (owedRecv d 0 + owedBar d 0) (kcell (c, k)) u
      = owedRecv d 0 (kcell (c, k)) () + owedBar d 0 (kcell (c, k)) () from rfl,
    Finset.sum_add_distrib, sum_owedRecv, sum_owedBar]
  match k with
  | .inl () => rfl
  | .inr (.inl _) => rfl
  | .inr (.inr _) => rfl

omit [FloatOps F] in
/-- The rights to wait that device `c` has at the launch. -/
theorem launch_cred :
    (Pipeline.launchCred O₀ c : sProp 𝕄) ⊢ bigSep Finset.univ fun k : Cell => cred (tallyAt (kcell (c, k)) () (waited k)) := by
  unfold Pipeline.launchCred
  refine (bigSep_subset (Finset.subset_univ (Finset.univ.map ⟨csem, csem_inj⟩))).trans ?_
  rw [bigSep_map]
  exact bigSep_mono fun k _ => Entails.of_eq (congrArg cred (launch_owed c k))

/-! ## The duties -/

/-- The duties of device `c`'s semaphores: seven of the barrier, one of each send and each receive semaphore. -/
abbrev dutyOf (cd : Dev nD × (Fin 7 ⊕ (Fin 7 ⊕ Fin 7))) : GSem nD τ sig × ℕ × Fin 7 :=
  match cd.2 with
  | .inl d => (barCell cd.1, 0, d)
  | .inr (.inl j) => (sendCell cd.1 j, 0, 0)
  | .inr (.inr j) => (recvCell cd.1 j, 0, 0)

/-- The semaphore that a duty is of. -/
abbrev cellOfDuty : Fin 7 ⊕ (Fin 7 ⊕ Fin 7) → Cell := Sum.map (fun _ => ()) id

theorem dutyOf_inj : Function.Injective dutyOf := by
  have hc (cd : Dev nD × (Fin 7 ⊕ (Fin 7 ⊕ Fin 7))) : (dutyOf cd).1 = kcell (cd.1, cellOfDuty cd.2) := by
    obtain ⟨d, i | i | i⟩ := cd <;> rfl
  rintro ⟨d, i⟩ ⟨d', i'⟩ h
  have h1 := kcell_inj (((hc _).symm.trans (congrArg Prod.fst h)).trans (hc _))
  have hd : d = d' := congrArg Prod.fst h1
  have hk : cellOfDuty i = cellOfDuty i' := congrArg Prod.snd h1
  have hn : (dutyOf (d, i)).2.2 = (dutyOf (d', i')).2.2 := congrArg (fun y => y.2.2) h
  subst hd
  rcases i with i | i <;> rcases i' with i' | i'
  · exact congrArg (fun z => (d, Sum.inl z)) hn
  · cases hk
  · cases hk
  · exact congrArg (fun z => (d, Sum.inr z)) (Sum.inr.inj hk)

/-- All semaphores of the exchange. -/
def allCells : Finset (GSem nD τ sig) := Finset.univ.map ⟨kcell, kcell_inj⟩
/-- All duties of the exchange. -/
def allDuties : Finset (GSem nD τ sig × ℕ × Fin 7) := Finset.univ.map ⟨dutyOf, dutyOf_inj⟩

/-- The duties that device `c` is owed. -/
def owedToks : sProp 𝕄 :=
  iprop(bigSep Finset.univ (fun d => dutyTok ER (barCell c) 0 d)
    ∗ bigSep Finset.univ (fun j => dutyTok ER (sendCell c j) 0 0) ∗ bigSep Finset.univ (fun j => dutyTok ER (recvCell c j) 0 0))
/-- The duties that device `c` pays: its signals and its copies. -/
def payToks : sProp 𝕄 :=
  iprop(bigSep Finset.univ (fun j => dutyTok ER (barCell (tgt c j)) 0 (opp j)) ∗ bigSep Finset.univ (copyTok (F := F) c))

/-- Opposite, as a reordering of the copies. -/
def oppEquiv : Fin 7 ≃ Fin 7 := ⟨opp, opp, opp_opp, opp_opp⟩

omit [FloatOps F] in
/-- Every barrier duty is paid by the device whose signal it is. -/
theorem bar_around :
    (bigSep Finset.univ fun c : Dev nD => bigSep Finset.univ fun d => (dutyTok ER (barCell c) 0 d : sProp 𝕄))
      = bigSep Finset.univ fun c : Dev nD => bigSep Finset.univ fun j => dutyTok ER (barCell (tgt c j)) 0 (opp j) := by
  refine (Pipeline.bigSep_univ_comm _).trans (Eq.trans ?_ (Pipeline.bigSep_univ_comm _))
  rw [bigSep_univ_equiv oppEquiv]
  exact bigSep_congr fun j _ => bigSep_univ_equiv (shift j) fun c => (dutyTok ER (barCell c) 0 (opp j) : sProp 𝕄)
omit [FloatOps F] in
/-- Every arrival is paid by the device whose copy it is. -/
theorem recv_around :
    (bigSep Finset.univ fun c : Dev nD => bigSep Finset.univ fun j => (dutyTok ER (recvCell c j) 0 0 : sProp 𝕄))
      = bigSep Finset.univ fun c : Dev nD => bigSep Finset.univ fun j => dutyTok ER (recvCell (tgt c j) j) 0 0 := by
  refine (Pipeline.bigSep_univ_comm _).trans (Eq.trans ?_ (Pipeline.bigSep_univ_comm _))
  exact bigSep_congr fun j _ => bigSep_univ_equiv (shift j) fun c => (dutyTok ER (recvCell c j) 0 0 : sProp 𝕄)

omit [FloatOps F] in
/-- The duties owed to all devices are the duties paid by all devices. -/
theorem toks_around :
    (bigSep Finset.univ fun c : Dev nD => owedToks (F := F) c) ⊢ bigSep Finset.univ fun c : Dev nD => payToks (F := F) c := by
  unfold owedToks payToks copyTok
  simp only [bigSep_sep']
  rw [bar_around, recv_around]

/-! ## Dealing -/

/-- What device `c` has of the exchange at first: its semaphores' rounds, its places in them, the duties owed to it. -/
def dealt : sProp 𝕄 :=
  iprop((bigSep Finset.univ fun k : Cell => roundState ER (rd x) (kcell (c, k)) 0)
    ∗ (bigSep Finset.univ fun k : Cell => iprop(atPos ER (kcell (c, k)) 0 ∅ 0 ∗ reached ER (kcell (c, k)) 0)) ∗ owedToks (F := F) c)

/-- What it starts the body with: everyone's records, its places, the duties it pays. -/
def ready : sProp 𝕄 :=
  iprop(∃ K, records x K ∗ (bigSep Finset.univ fun k : Cell => atPos ER (kcell (c, k)) 0 ∅ 0) ∗ payToks (F := F) c)

/-- The exchange's ghost state, dealt to the devices. -/
theorem deal : BI.own (ER (initOf allCells allDuties)) ⊢ (|==> bigSep Finset.univ (dealt x) : sProp 𝕄) := by
  have hX (Φ : GSem nD τ sig → sProp 𝕄) :
      bigSep allCells Φ = bigSep Finset.univ fun c : Dev nD => bigSep Finset.univ fun k : Cell => Φ (kcell (c, k)) := by
    unfold allCells; rw [bigSep_map, bigSep_univ_prod]; rfl
  have hT : bigSep allDuties (fun y => (dutyTok ER y.1 y.2.1 y.2.2 : sProp 𝕄)) = bigSep Finset.univ fun c : Dev nD => owedToks (F := F) c := by
    unfold allDuties; rw [bigSep_map, bigSep_univ_prod]
    refine bigSep_congr fun c _ => ?_
    rw [bigSep_univ_sum, bigSep_univ_sum]; rfl
  iintro HX
  imod (Rounds.fund ER (rd x) allCells allDuties) $$ HX with ⟨Hst, Hr, Hat, Htok⟩
  imodintro
  ihave Hst := (Entails.of_eq (hX fun g => roundState ER (rd x) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold dealt
  simp only [bigSep_sep']
  isplitl [Hst]; · iexact Hst
  isplitl [Hat Hr]
  · isplitl [Hat] <;> iassumption
  iexact Htok

/-- The kernel's own semaphores and the barrier, all at zero. -/
abbrev ownZero : sProp 𝕄 := Pipeline.ownSems0 (Ix := Unit) (Name := ℕ) (U := UU) (Lvl := ℕ) (Val := Elt F) (τ := τ) osem c

omit [FloatOps F] in
/-- The launch's one semaphore outside the kernel is the barrier. -/
theorem unscopedSems0_eq : (unscopedSems0 c : sProp 𝕄) = semVal (barCell c) 0 := by
  unfold unscopedSems0; rw [bigSep_eq_bigSepL_of_eq [SemLoc.reg barS] (by decide) (by decide)]; rfl

omit [FloatOps F] in
/-- All semaphores of device `c` at zero are the barrier and the kernel's own. -/
theorem zero_eq : (bigSep Finset.univ fun k : Cell => semVal (kcell (c, k)) 0 : sProp 𝕄) = iprop(unscopedSems0 c ∗ ownZero (F := F) c) := by
  rw [unscopedSems0_eq, bigSep_univ_sum, bigSep_univ_of_subsingleton ()]; rfl

/-- One semaphore at zero with its round: its invariant. -/
theorem body_alloc (k : Cell) :
    iprop(semVal (kcell (c, k)) 0 ∗ roundState ER (rd x) (kcell (c, k)) 0)
      ⊢ (|={Set.univ}=> iprop(∃ κ : ℕ, cellInv ER (rd x) κ (kcell (c, k))) : sProp 𝕄) :=
  (Rounds.body_intro ER (rd x) (kcell (c, k))).trans inv_alloc

/-- Device `c`'s semaphores at zero: their invariants, and the rest of what was dealt. -/
theorem dev_alloc :
    iprop(ownZero (F := F) c ∗ unscopedSems0 c ∗ dealt x c)
      ⊢ |={Set.univ}=> iprop((bigSep Finset.univ fun k => iprop(∃ κ : ℕ, cellInv ER (rd x) κ (kcell (c, k))))
          ∗ (bigSep Finset.univ fun k => iprop(atPos ER (kcell (c, k)) 0 ∅ 0 ∗ reached ER (kcell (c, k)) 0)) ∗ owedToks (F := F) c) := by
  unfold dealt
  iintro ⟨Ho, Hu, Hst, Hat, Htok⟩
  ihave Hz := (Entails.of_eq (zero_eq (F := F) c).symm) $$ [Ho Hu]
  · isplitl [Hu] <;> iassumption
  imod (show iprop((bigSep Finset.univ fun k : Cell => semVal (kcell (c, k)) 0) ∗ bigSep Finset.univ fun k : Cell => roundState ER (rd x) (kcell (c, k)) 0)
      ⊢ (|={Set.univ}=> bigSep Finset.univ fun k => iprop(∃ κ : ℕ, cellInv ER (rd x) κ (kcell (c, k))) : sProp 𝕄) from by
        rw [← bigSep_sep']
        exact (bigSep_mono fun k _ => body_alloc x c k).trans (bigSep_fupd _ _)) $$ [Hz Hst] with Hinv
  · isplitl [Hz] <;> iassumption
  imodintro
  isplitl [Hinv]; · iexact Hinv
  isplitl [Hat]; · iexact Hat
  iexact Htok

/-- With the records, a device's places and duties are what it starts with. -/
theorem ready_intro (K : Dev nD × Cell → ℕ) :
    iprop(records x K ∗ (bigSep Finset.univ fun k : Cell => atPos ER (kcell (c, k)) 0 ∅ 0) ∗ payToks (F := F) c) ⊢ ready x c := by
  unfold ready
  iintro H
  iexists K
  iexact H

/-- All devices' invariants, places and duties, shared out. -/
theorem share_out :
    (bigSep Finset.univ fun c : Dev nD => iprop((bigSep Finset.univ fun k => iprop(∃ κ : ℕ, cellInv ER (rd x) κ (kcell (c, k))))
          ∗ (bigSep Finset.univ fun k => iprop(atPos ER (kcell (c, k)) 0 ∅ 0 ∗ reached ER (kcell (c, k)) 0)) ∗ owedToks (F := F) c) : sProp 𝕄)
      ⊢ bigSep Finset.univ (ready x) := by
  simp only [bigSep_sep']
  rw [← bigSep_univ_prod (fun ck : Dev nD × Cell => iprop(∃ κ : ℕ, cellInv ER (rd x) κ (kcell ck))),
    ← bigSep_univ_prod (fun ck : Dev nD × Cell => (reached ER (kcell ck) 0 : sProp 𝕄))]
  iintro ⟨HI, ⟨Hat, #HR⟩, Htok⟩
  ihave HK := (BI.bigSep_exists_pi Finset.univ (fun (ck : Dev nD × Cell) (κ : ℕ) => (cellInv ER (rd x) κ (kcell ck) : sProp 𝕄))) $$ HI
  icases HK with ⟨%K, #HI⟩
  ihave Htok := (toks_around (F := F)) $$ Htok
  iapply (bigSep_with_persistent (R := records x K) fun c _ => ready_intro x c K)
  isplitr
  · unfold records
    simp only [bigSep_sep']
    isplitl; · iexact HI
    iexact HR
  simp only [bigSep_sep']
  isplitl [Hat] <;> iassumption

/-- Every semaphore at zero and what was dealt: every device is ready. -/
theorem make_ready :
    (bigSep Finset.univ fun c => iprop(ownZero (F := F) c ∗ unscopedSems0 c ∗ dealt x c) : sProp 𝕄)
      ⊢ |={Set.univ}=> bigSep Finset.univ (ready x) :=
  ((bigSep_mono fun c _ => dev_alloc x c).trans (bigSep_fupd _ _)).trans (BI.fupd_mono (share_out x))

end Cert.Exchange

end
-- ==== Proof.Run.lean ====
/-
# The run

The kernel's launch: what each window holds before and after the body, the body's obligation from `body_spec`, and the
run of the whole program from any memory with every semaphore at zero.
-/
module

public import proofs.«01_k».proof.Proof.Deal
public import proofs.«01_k».proof.Proof.Gen.KernelIdeal.Frame
public import proofs.«01_k».proof.Proof.Gen.KernelIdeal.Points

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)
open Idealize.ShloMosaic.Transfers (shareTok shareDrop)

attribute [local instance] Cert.KernelIdeal.Gen.facts

variable {F : FTy → Type} [FloatOps F]

local notation "𝕄" => MT nD τ sig Unit (Elt F) ℕ UU ℕ

open Idealize.ShloMosaic.Pipeline (Dat Cfg Window BodyObligation)

variable (m : (ℓ : Loc nD τ sig) → Buf (Elt F) ℓ) (ρ : Dev nD → PrngReg) (c : Dev nD)

/-- Device `c`'s block of the argument, as the launch stages it. -/
def X (c : Dev nD) : Vec F S1024x512 .f32 := iblk m c 0 t0_0

/-- What device `c` starts with: its part of the exchange, the rights to wait, the levels. -/
def start : sProp 𝕄 :=
  iprop(ready (X m) c ∗ (bigSep Finset.univ fun k : Cell => cred (tallyAt (kcell (c, k)) () (waited k))) ∗ levAts L lv)

/-- Before the body: that and the two scratch buffers. -/
def before : sProp 𝕄 :=
  iprop(start m c ∗ (∃ f : Vec F S2x512 .f32, (bM : Memref sig .tc .vmem S2x512 .f32).view.loc (c : Thread nD τ) ↦{fullShare} f)
    ∗ (∃ f : Vec F S7x2x512 .f32, (rM : Memref sig .tc .vmem S7x2x512 .f32).view.loc (c : Thread nD τ) ↦{fullShare} f))

/-- The windows' contents, and what holds before and after the body. -/
def dats (_ : Fin 1) (c : Dev nD) : Dat τ (Elt F) Unit ℕ UU ℕ cfg0 c where
  A w := m ((cfg0.win w).arr.view.loc (c : Thread nD τ))
  after w _ := match w with
    | ⟨0, _⟩ => X m c
    | ⟨1, _⟩ => outAt (X m) c
  Φ t := match t with
    | ⟨0, _⟩ => before m c
    | ⟨_ + 1, _⟩ => ended (F := F) c
  q _ := fullShare
  owed t := match t with
    | ⟨0, _⟩ => O₀ c
    | ⟨_ + 1, _⟩ => 0

/-! ## The body's obligation -/

/-- A staging buffer holding `f`. -/
abbrev staged (c : Dev nD) (b : Ref sig .tc) (f : b.ty.Contents (Elt F)) : sProp 𝕄 :=
  iprop(∃ g : Buf (Elt F) ((c : Thread nD τ).loc b), ⌜g = f⌝ ∗ ((c : Thread nD τ).loc b) ↦{fullShare} g)

omit [FloatOps F] in
theorem owns_eq (b : Ref sig .tc) (f : b.ty.Contents (Elt F)) :
    (owns (Ix := Unit) (Name := ℕ) (U := UU) (Lvl := ℕ) (c : Thread nD τ) (Memref.whole b) fullShare f : sProp 𝕄) = staged c b f := by
  unfold owns staged; simp only [Memref.view_whole, View.read_whole, View.set_whole]

omit [FloatOps F] in
/-- A duty to signal and the slot handed over start a signal. -/
theorem sig_intro (f : Vec F S7x2x512 .f32) (j : Fin 7) :
    iprop(dutyTok ER (barCell (tgt c j)) 0 (opp j) ∗ slotPts c (opp j) f) ⊢ sigA (F := F) c j := by
  unfold sigA
  iintro ⟨H1, H2⟩
  isplitl [H1]; · iexact H1
  iexists f; iexact H2

omit [FloatOps F] in
/-- The same for all signals. -/
theorem sigs_intro (f : Vec F S7x2x512 .f32) :
    iprop(bigSep Finset.univ (fun j => dutyTok ER (barCell (tgt c j)) 0 (opp j)) ∗ bigSep Finset.univ (fun j => slotPts c (opp j) f))
      ⊢ bigSep Finset.univ (sigA (F := F) c) := by
  rw [← bigSep_sep']
  exact bigSep_mono fun j _ => sig_intro c f j

omit [FloatOps F] in
/-- The duties to signal and the receive buffer, and what is owed, start the signals. -/
theorem signals_intro (f : Vec F S7x2x512 .f32) :
    iprop(owesE c (O₀ c) ∗ bigSep Finset.univ (fun j => dutyTok ER (barCell (tgt c j)) 0 (opp j))
        ∗ ((rM : Memref sig .tc .vmem S7x2x512 .f32).view.loc (c : Thread nD τ) ↦{fullShare} f))
      ⊢ signalling (F := F) c 0 := by
  unfold signalling
  rw [slots_eq, bigSep_univ_equiv oppEquiv (fun j => slotPts (F := F) c j f)]
  iintro ⟨HO, Ht, Hs⟩
  isplitl [HO]; · iexact HO
  iapply prog_start
  iapply (sigs_intro c f)
  isplitl [Ht]; · iexact Ht
  iexact Hs

omit [FloatOps F] in
/-- A right to wait for an arrival and the place in its round start that wait. -/
theorem came_intro :
    iprop(bigSep Finset.univ (fun j => cred (tallyAt (recvCell c j) () N)) ∗ bigSep Finset.univ (fun j => atPos ER (recvCell c j) 0 ∅ 0))
      ⊢ (bigSep Finset.univ (cameA (F := F) c) : sProp 𝕄) := by
  unfold cameA
  exact Entails.of_eq (bigSep_sep' Finset.univ _ _).symm

/-- The body, from what the launch gives it to what it gives back. -/
theorem sound_body (g1 : Vec F S2x512 .f32) (W : Waits sig Unit) (Kt : PUnit → sProp 𝕄) :
    iprop(before m c ∗ owes (c : Thread nD τ) (O₀ c) W
        ∗ ((c : Thread nD τ).loc cc0_stg0_0 ↦{fullShare} (X m c)) ∗ ((c : Thread nD τ).loc cc0_stg1_0 ↦{fullShare} g1)
        ∗ ((∃ W', owes (c : Thread nD τ) 0 W') -∗ ended (F := F) c
            -∗ ((c : Thread nD τ).loc cc0_stg0_0 ↦{fullShare} (X m c))
            -∗ ((c : Thread nD τ).loc cc0_stg1_0 ↦{fullShare} (outAt (X m) c)) -∗ Kt ⟨⟩))
      ⊢ wp frame (wpE (defs₀ (F := F)) 𝒱₀ (c : Thread nD τ) none) Set.univ
          (cc0_body xM (Memref.isWhole_whole _) oM (Memref.isWhole_whole _) bM (Memref.isWhole_whole _) rM (Memref.isWhole_whole _)
            cc0_scratch2 cc0_scratch3) Kt := by
  unfold before start ready payToks
  rw [cells_eq (F := F) fun k => cred (tallyAt (kcell (c, k)) () (waited k))]
  iintro ⟨⟨⟨⟨%K, #Hr, Hat, Htb, Htc⟩, ⟨Hcb, -, Hcr⟩, #Hlev⟩, ⟨%f0, Hb⟩, ⟨%f1, Hrb⟩⟩, HO, Hx, Ho, Hk⟩
  ihave Hat := (Entails.of_eq (cells_eq (F := F) fun k => atPos ER (kcell (c, k)) 0 ∅ 0)) $$ Hat
  icases Hat with ⟨HatB, HatS, HatR⟩
  iapply (body_spec (X m) K c f0 g1 Kt)
  isplitr; · iexact Hr
  isplitl [HO Htb Hrb]
  · iapply (signals_intro c f1)
    isplitl [HO]; · unfold owesE; iexists W; iexact HO
    isplitl [Htb] <;> iassumption
  isplitl [Hx]; · iexact Hx
  isplitl [Hb]; · iexact Hb
  isplitl [Ho]; · iexact Ho
  isplitl [Hcb]; · iexact Hcb
  isplitl [HatB]; · iexact HatB
  isplitr; · iexact Hlev
  isplitl [Htc]; · iexact Htc
  isplitl [HatS Hcr HatR]
  · unfold waitTok
    isplitl [HatS]; · iexact HatS
    iapply (came_intro c)
    isplitl [Hcr]; · iexact Hcr
    iexact HatR
  unfold owesE
  iexact Hk

/-- Before and after the body, as its obligation has them. -/
def bodyPre : sProp 𝕄 :=
  iprop(before m c ∗ (dats m 0 c).owesAt () (t0_0 : Fin cfg0.N).castSucc
    ∗ (∃ d, staged c cc0_stg0_0 ((dats m 0 c).before (0 : Fin 2) t0_0 d))
    ∗ (∃ d, staged c cc0_stg1_0 ((dats m 0 c).before (1 : Fin 2) t0_0 d)))
def bodyPost : sProp 𝕄 :=
  iprop(ended (F := F) c ∗ (dats m 0 c).owesAt () (t0_0 : Fin cfg0.N).succ
    ∗ staged c cc0_stg0_0 (X m c) ∗ staged c cc0_stg1_0 (outAt (X m) c))

/-- The body's staged argument is the block. -/
theorem before_arg (d) : (dats m 0 c).before (0 : Fin 2) t0_0 d = X m c := by
  unfold Dat.before; rw [if_pos (fetch0_0 t0_0)]; rfl

theorem body_step :
    bodyPre m c ⊢ wp frame (wpE (defs₀ (F := F)) 𝒱₀ (c : Thread nD τ) none) Set.univ
          (cc0_body xM (Memref.isWhole_whole _) oM (Memref.isWhole_whole _) bM (Memref.isWhole_whole _) rM (Memref.isWhole_whole _)
            cc0_scratch2 cc0_scratch3) (fun _ => bodyPost m c) := by
  unfold bodyPre bodyPost Dat.owesAt Pipeline.owesWithin
  rw [show (dats m 0 c).owed (t0_0 : Fin cfg0.N).castSucc = O₀ c from rfl, show (dats m 0 c).owed (t0_0 : Fin cfg0.N).succ = 0 from rfl]
  iintro ⟨Hp, ⟨%W, %hW, HO⟩, ⟨%d0, %g0, %hg0, Hx⟩, ⟨%d1, %g1, %hg1, Ho⟩⟩
  rw [hg0.trans (before_arg m c d0)]
  iapply (sound_body m c g1 W _)
  isplitl [Hp]; · iexact Hp
  isplitl [HO]; · iexact HO
  isplitl [Hx]; · iexact Hx
  isplitl [Ho]; · iexact Ho
  iintro ⟨%W', HO⟩ He Hx Ho
  isplitl [He]; · iexact He
  isplitl [HO]
  · iexists W'
    isplitr; · ipureintro; exact fun _ _ => Or.inl trivial
    iexact HO
  isplitl [Hx]
  · iexists _
    isplitr; · (ipureintro; rfl)
    iexact Hx
  iexists _
  isplitr; · (ipureintro; rfl)
  iexact Ho

omit [FloatOps F] in
/-- The two windows one by one. -/
theorem windows_eq (Φ : Fin cfg0.W → sProp 𝕄) : bigSep Finset.univ Φ = iprop(Φ (0 : Fin 2) ∗ Φ (1 : Fin 2)) := bigSep_W0 Φ

set_option maxRecDepth 4000 in
/-- What the launch asks of the body. -/
theorem body_obligation : BodyObligation (dats (F := F) m 0 c) (defs₀ (F := F)) 𝒱₀ () Set.univ := fun t => by
  rw [show t = t0_0 from fin_N0 t]
  rw [windows_eq, windows_eq]
  simp only [owns_eq]
  exact body_step m c

end Cert.Exchange

end
-- ==== Proof.Whole.lean ====
/-
# The whole program's run

The launch: what the program starts with, shared out over the devices, and what their bodies leave. From any memory
with every semaphore at zero the program ends, the argument as it was, the result that of the exchange, and every
semaphore at zero again.
-/
module

public import proofs.«01_k».proof.Proof.Run
public import Idealize.ShloMosaic.Lib.Pipeline.CollectiveSegs

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)
open Idealize.ShloMosaic.Transfers (shareTok shareDrop)

attribute [local instance] Cert.KernelIdeal.Gen.facts

variable {F : FTy → Type} [FloatOps F]

local notation "𝕄" => MT nD τ sig Unit (Elt F) ℕ UU ℕ

open Idealize.ShloMosaic.Pipeline (Dat Cfg Window BodyObligation)

variable (m : (ℓ : Loc nD τ sig) → Buf (Elt F) ℓ) (ρ : Dev nD → PrngReg) (c : Dev nD)

/-! ## The launch's set-up -/

theorem ownSemFacts : Pipeline.OwnSemFacts cfg0.spec osem := by decide

theorem share_eq (w : Fin cfg0.W) : (dats m 0 c).share w = fullShare := by unfold Dat.share; split <;> rfl

/-- What every counter of ghost state starts with: the pipeline's part and the exchange's. -/
def u₀ : UU := (initOf (Pipeline.cells cfgs cellOf_inj) (Pipeline.launchToks cfgs cellOf_inj), initOf allCells allDuties)

/-- What the program starts with makes what a device starts with. -/
theorem start_intro :
    iprop(Pipeline.unscopedRestP Pipeline.Prefetch.none cfg0.spec c (fun b => m ((c : Thread nD τ).loc b)) ∗ levAts L lv
        ∗ Pipeline.launchCred O₀ c ∗ prngReg c (ρ c) ∗ ready (X m) c)
      ⊢ |={Set.univ}=> iprop(start m c ∗ emp) := by
  iintro ⟨-, Hlev, Hcr, -, HG⟩
  ihave Hc := (launch_cred (F := F) c) $$ Hcr
  imodintro
  unfold start
  isplitl
  · isplitl [HG]; · iexact HG
    isplitl [Hc]; · iexact Hc
    iexact Hlev
  · iempintro

/-- With the scratch buffers, that is what the body starts with. -/
theorem before_intro :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold before
  iintro ⟨Hs, -, Hb, Hr⟩
  isplitl [Hs]; · iexact Hs
  isplitl [Hb]; · iexact Hb
  iexact Hr

/-- What the body ends with gives back the semaphores at zero and the scratch buffers. -/
theorem ended_exit :
    (dats m 0 c).Φ (Fin.last cfg0.N) ⊢ iprop(unscopedSems0 c ∗ Pipeline.ownSems0 osem c ∗ Pipeline.scopedRest cfg0.spec c) := by
  rw [show (dats m 0 c).Φ (Fin.last cfg0.N) = ended (F := F) c from rfl, scopedRest0_eq]
  unfold ended
  rw [zero_eq]
  iintro ⟨Hb, Hr, Hu, Ho⟩
  isplitl [Hu]; · iexact Hu
  isplitl [Ho]; · iexact Ho
  isplitl [Hb]; · iexact Hb
  iexact Hr

/-- The staging semaphores are none of the exchange's. -/
theorem stage_kind (w : Fin cfg0.W) (s : Fin (cfg0.win w).nbuf) : kindOf (.dma ((cfg0.win w).sem s)) = none := by
  have h : ∀ k, csem k ≠ .dma ((cfg0.win w).sem s) := by
    fin_cases w <;> fin_cases s <;> decide
  unfold kindOf
  exact dif_neg fun ⟨k, hk⟩ => h k hk

theorem waits : (levAts L lv : sProp 𝕄) ⊢ Pipeline.cellsWaits cfgs (dats m) () 0 c :=
  Pipeline.cellsWaits_intro cfgs (dats m) () 0 c fun w s t =>
    mayWait_stage c _ (stage_kind w s) _ (by
      rcases t with ⟨_ | _, ht⟩
      · exact Or.inl rfl
      · exact Or.inr rfl)

/-! ## The run -/

set_option maxRecDepth 8000 in
/-- The program ends, its arrays as the windows' write-backs leave them and its semaphores at zero. -/
theorem run_arrays : θ_run defs (onTc (τ := τ) (main (F := F))) ⟨m, fun _ => 0, ρ⟩ (fun r =>
    (∀ (c : Dev nD) w, r.2.mem ((cfg0.win w).arr.view.loc (c : Thread nD τ)) = (dats m 0 c).arrAt w cfg0.N) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0)
    (hstage := stage_whole0) (hshare := share_eq m) (hdistinct := winFacts0.arr_inj)
    (O₀ := O₀) (howed₀ := fun _ => rfl) (howedN := fun _ => rfl)
    (L := L) (lv := lv) (hL := L_of_ne) (hwaits := waits m)
    (G := dealt (X m)) (G' := ready (X m)) (u₀ := u₀)
    (hu₀ := by
      unfold u₀
      iintro Hu
      ihave H := (ownU_pair _ _) $$ Hu
      icases H with ⟨HP, HX⟩
      imod (deal (X m)) $$ HX with HG
      imodintro
      isplitl [HP] <;> iassumption)
    (hglob := make_ready (X m))
    (hA := fun _ _ => rfl) (hpf := fun _ k => k.elim0)
    (X := start m) (Y := fun c => unscopedSems0 c) (Z := fun _ => iprop(emp))
    (hX := start_intro m ρ) (hin := before_intro m) (hout := ended_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays -/

/-- Every device's argument, as a memory has it. -/
def argOf (c : Dev nD) : Vec F S1024x512 .f32 := m ((c : Thread nD τ).loc main_arg0)

/-- The argument's one block is the argument. -/
theorem X_eq : X m = argOf m := by
  funext c
  exact Memref.read_access_unit_zero (Elt F) main_arg0
    (show (fun a => (win0_0.index t0_0) a * main_arg0.ty.shape.size a) = fun _ => 0 from
      funext fun a => by fin_cases a <;> decide) (fun a => by fin_cases a <;> decide) _

/-- The result's one block is the result. -/
theorem read_result (f : Buf (Elt F) ((c : Thread nD τ).loc main_v1)) : (win0_1.blk t0_0).view.read (Elt F) f = f :=
  Memref.read_access_unit_zero (Elt F) main_v1
    (show (fun a => (win0_1.index t0_0) a * main_v1.ty.shape.size a) = fun _ => 0 from
      funext fun a => by fin_cases a <;> decide) (fun a => by fin_cases a <;> decide) f

/-- The result array, its one block written, is what the body stored. -/
theorem arr_result : (dats m 0 c).arrAt (1 : Fin 2) cfg0.N = outAt (argOf m) c := by
  have hf : (dats m 0 c).flushed (1 : Fin 2) t0_0 = outAt (argOf m) c := by
    rw [← X_eq]
    exact funext fun _ => rfl
  have hw : (win0_1.blk t0_0).view.read (Elt F) ((dats m 0 c).arrAt (1 : Fin 2) cfg0.N) = (dats m 0 c).flushed (1 : Fin 2) t0_0 := by
    rw [show cfg0.N = t0_0.val + 1 from rfl, (dats m 0 c).arrAt_succ (1 : Fin 2) t0_0, flush0_1, if_pos rfl]
    exact View.read_write_univ _ _
  exact ((read_result c _).symm.trans hw).trans hf

/-- The program ends with every device's argument unchanged, its result that of the exchange, and every semaphore at
    zero. -/
theorem run_kernel : θ_run defs (onTc (τ := τ) (main (F := F))) ⟨m, fun _ => 0, ρ⟩ (fun r =>
    (∀ c : Dev nD, r.2.mem ((c.tc : Thread nD τ).loc main_v1) = outAt (argOf m) c
      ∧ r.2.mem ((c.tc : Thread nD τ).loc main_arg0) = m ((c.tc : Thread nD τ).loc main_arg0)) ∧ r.2.sem = fun _ => 0) :=
  (θ_run defs _ _).mono (fun r h =>
    ⟨fun c => ⟨(h.1 c (1 : Fin 2)).trans (arr_result m c), (h.1 c (0 : Fin 2)).trans ((dats m 0 c).arrAt_in (0 : Fin 2) rfl _)⟩, h.2⟩)
    (run_arrays m ρ)

end Cert.Exchange

end
-- ==== Proof.Same.lean ====
/-
# The kernel as printed is the idealized kernel's text

The two programs are one text read at two kinds of floats: what the exchange's run shows for any floats is shown of
both.
-/
module

public import proofs.«01_k».proof.Defs
public import proofs.«01_k».proof.Proof.Gen.Kernel
public import proofs.«01_k».proof.Proof.Whole

@[expose] public section

set_option maxRecDepth 65536

noncomputable section

namespace Cert.Exchange

open Idealize.ShloMosaic Idealize.ShloMosaic.TcCoe Idealize.SL.Sem

attribute [local instance] Cert.Kernel.Gen.facts Cert.KernelIdeal.Gen.facts

section Text

variable {F : FTy → Type} [FloatOps F]

/-- The two programs' kernel bodies are one. -/
theorem bodies_eq : Cert.Kernel.defs₀ (F := F) = Cert.KernelIdeal.defs₀ (F := F) := by
  refine congrArg Defs.onTc (funext fun l => funext fun a => ?_)
  match l, a with
  | ⟨0, _⟩, (t, s) => rfl

/-- Their pipelines are one. -/
theorem defs_eq : Cert.Kernel.defs (F := F) = Cert.KernelIdeal.defs (F := F) :=
  congrArg (Pipeline.defs (Cert.KernelIdeal.pcfgs (F := F))) bodies_eq

end Text

/-- The kernel leaves its argument and every semaphore. -/
theorem frame_kernel : quiescent_Kernel := fun m g _ => by
  rw [defs_eq]
  exact (θ_run _ _ _).mono (fun _ h => ⟨fun c => (h.1 c).2, h.2⟩) (run_kernel (F := Bits) m g)

/-- So does the idealized kernel. -/
theorem frame_kernelIdeal : quiescent_KernelIdeal := fun m g _ =>
  (θ_run _ _ _).mono (fun _ h => ⟨fun c => (h.1 c).2, h.2⟩) (run_kernel (F := Ideal) m g)

end Cert.Exchange

end
-- ==== Proof.Best.lean ====
/-
# The greatest value and its first place

What a column's greatest value and the first row that has it are, with no order in which the rows are looked at, and
how the pairs of two sets of rows give the pair of their union.
-/
module

public import Idealize.ShloMosaic.PureOps.Ideal.Laws
public import Idealize.ShloMosaic.PureOps.Reduce
public import Mathlib.Data.EReal.Basic
public import Mathlib.Data.Finset.Fold
public import Mathlib.Order.Interval.Finset.Nat

@[expose] public section

noncomputable section

namespace Cert.Column

open Idealize.ShloMosaic

/-- `v` is the greatest value of `G` on the rows `S`, and `i` the first of them that has it. The pair `(⊥, 0)`, from which
    a search starts, is also allowed where nothing on `S` is above it. -/
structure IsBest (G : ℤ → EReal) (S : ℤ → Prop) (v : EReal) (i : ℤ) : Prop where
  /-- Nothing on `S` is greater. -/
  upper : ∀ r, S r → G r ≤ v
  /-- No row of `S` before `i` has the value. -/
  first : ∀ r, S r → G r = v → i ≤ r
  /-- Row `i` has it. -/
  origin : (S i ∧ G i = v) ∨ (v = ⊥ ∧ i = 0)

/-- The rows of the whole array. -/
def allRows (r : ℤ) : Prop := 0 ≤ r ∧ r < 8192

/-- Before any row is looked at the pair is `(⊥, 0)`. -/
theorem IsBest.start (G : ℤ → EReal) : IsBest G (fun _ => False) ⊥ 0 :=
  ⟨fun _ h => h.elim, fun _ h => h.elim, .inr ⟨rfl, rfl⟩⟩

/-- A single row. -/
theorem IsBest.single (G : ℤ → EReal) (k : ℤ) : IsBest G (fun r => r = k) (G k) k :=
  ⟨fun r h => by rw [h], fun r h _ => h.ge, .inl ⟨rfl, rfl⟩⟩

/-- The same pair for another description of the rows. -/
theorem IsBest.congr {G : ℤ → EReal} {S T : ℤ → Prop} {v : EReal} {i : ℤ} (h : IsBest G S v i) (e : ∀ r, S r ↔ T r) :
    IsBest G T v i :=
  ⟨fun r hr => h.upper r ((e r).2 hr), fun r hr => h.first r ((e r).2 hr), h.origin.imp_left fun o => ⟨(e i).1 o.1, o.2⟩⟩

/-- On rows that include row 0 the pair's row is one of them. -/
theorem IsBest.mem {G : ℤ → EReal} {S : ℤ → Prop} {v : EReal} {i : ℤ} (h : IsBest G S v i) (h0 : S 0) : S i ∧ G i = v := by
  rcases h.origin with o | ⟨rfl, rfl⟩
  · exact o
  · exact ⟨h0, le_bot_iff.1 (h.upper 0 h0)⟩

/-- On rows that include row 0 there is one pair. -/
theorem IsBest.unique {G : ℤ → EReal} {S : ℤ → Prop} {v w : EReal} {i j : ℤ} (h : IsBest G S v i) (h' : IsBest G S w j)
    (h0 : S 0) : v = w ∧ i = j := by
  obtain ⟨hi, ei⟩ := h.mem h0
  obtain ⟨hj, ej⟩ := h'.mem h0
  have e : v = w := le_antisymm (ei ▸ h'.upper i hi) (ej ▸ h.upper j hj)
  exact ⟨e, le_antisymm (h.first j hj (ej.trans e.symm)) (h'.first i hi (ei.trans e))⟩

/-- Of two sets' pairs, the second where its value is greater or, the values equal, its row is smaller; else the first. -/
theorem IsBest.union {G : ℤ → EReal} {S T : ℤ → Prop} {v w : EReal} {i j : ℤ} (h : IsBest G S v i) (h' : IsBest G T w j) :
    IsBest G (fun r => S r ∨ T r) (if v < w ∨ (w = v ∧ j < i) then w else v) (if v < w ∨ (w = v ∧ j < i) then j else i) := by
  by_cases t : v < w ∨ (w = v ∧ j < i)
  · rw [if_pos t, if_pos t]
    refine ⟨?_, ?_, h'.origin.imp_left fun o => ⟨.inr o.1, o.2⟩⟩
    · rintro r (hr | hr)
      · exact (h.upper r hr).trans (t.elim le_of_lt fun e => e.1.ge)
      · exact h'.upper r hr
    · rintro r (hr | hr) e
      · rcases t with t | ⟨e', hji⟩
        · exact absurd (h.upper r hr) (by rw [e]; exact not_le.2 t)
        · exact hji.le.trans (h.first r hr (e.trans e'))
      · exact h'.first r hr e
  · rw [if_neg t, if_neg t]
    have hle : w ≤ v := not_lt.1 fun hlt => t (.inl hlt)
    refine ⟨?_, ?_, h.origin.imp_left fun o => ⟨.inl o.1, o.2⟩⟩
    · rintro r (hr | hr)
      · exact h.upper r hr
      · exact (h'.upper r hr).trans hle
    · rintro r (hr | hr) e
      · exact h.first r hr e
      · have e' : w = v := le_antisymm hle (e ▸ h'.upper r hr)
        exact (not_lt.1 fun hji => t (.inr ⟨e', hji⟩)).trans (h'.first r hr (e.trans e'.symm))

/-! ## Folds -/

/-- The pattern of negative infinity is the least value. -/
theorem ofBits_bot : (FloatOps.ofBits .f32 0xFF800000#32 : Ideal .f32) = (⊥ : EReal) := by
  show Ideal.ofBits .f32 0xFF800000#32 = ⊥
  simp [Ideal.ofBits, Ideal.ieee]

/-- A fold of `max` from `⊥` is above every value, and is one of them. -/
theorem fold_max_spec {n : ℕ} (hn : 0 < n) (f : Fin n → EReal) :
    (∀ k, f k ≤ (Finset.univ : Finset (Fin n)).fold max ⊥ f) ∧ ∃ k, f k = (Finset.univ : Finset (Fin n)).fold max ⊥ f := by
  have up : ∀ k, f k ≤ (Finset.univ : Finset (Fin n)).fold max ⊥ f := fun k =>
    ((Finset.fold_max_le _).1 le_rfl).2 k (Finset.mem_univ k)
  refine ⟨up, ?_⟩
  rcases (Finset.le_fold_max _).1 (le_refl ((Finset.univ : Finset (Fin n)).fold max ⊥ f)) with h | ⟨k, -, h⟩
  · exact ⟨⟨0, hn⟩, le_antisymm (up _) (h.trans bot_le)⟩
  · exact ⟨k, le_antisymm (up k) h⟩

/-- The integer of the smaller of two words is the smaller integer. -/
theorem toInt_minsi (a b : BitVec 32) : (IntOp.minsi a b).toInt = min a.toInt b.toInt := by
  unfold IntOp.minsi
  by_cases h : a.slt b
  · rw [if_pos h, min_eq_left (le_of_lt (by simpa [BitVec.slt] using h))]
  · rw [if_neg h, min_eq_right (not_lt.1 (by simpa [BitVec.slt] using h))]

/-- A fold of the smaller of two words, as an integer. -/
theorem toInt_fold_minsi {n : ℕ} (b : BitVec 32) (f : Fin n → BitVec 32) :
    ((Finset.univ : Finset (Fin n)).fold IntOp.minsi b f).toInt
      = (Finset.univ : Finset (Fin n)).fold min b.toInt (fun k => (f k).toInt) :=
  (Finset.fold_hom (op := IntOp.minsi) (op' := min) (m := BitVec.toInt) toInt_minsi).symm

/-- The smallest row number among those marked, where an unmarked row counts as one past every row and some row is
    marked: a marked row, and no marked row is before it. -/
theorem fold_marked_spec {n N : ℕ} (hN : n ≤ N) (hN' : N < 2147483647) (p : Fin n → Prop) [DecidablePred p] (hp : ∃ k, p k) :
    ∃ k, p k ∧ (∀ k', p k' → k ≤ k')
      ∧ ((Finset.univ : Finset (Fin n)).fold IntOp.minsi 2147483647#32
          (fun k => if p k then BitVec.ofNat 32 k.val else BitVec.ofNat 32 N)).toInt = (k.val : ℤ) := by
  have word : ∀ a : ℕ, a < 2147483648 → (BitVec.ofNat 32 a).toInt = (a : ℤ) := fun a ha => by
    rw [BitVec.toInt_ofNat', Int.bmod_def]; omega
  rw [toInt_fold_minsi]
  set M := (Finset.univ : Finset (Fin n)).fold min (2147483647#32 : BitVec 32).toInt
    (fun k => (if p k then BitVec.ofNat 32 k.val else BitVec.ofNat 32 N).toInt) with hM
  have val : ∀ k : Fin n, (if p k then BitVec.ofNat 32 k.val else BitVec.ofNat 32 N).toInt = if p k then (k.val : ℤ) else N :=
    fun k => by split_ifs <;> exact word _ (by omega)
  have lo : ∀ k, M ≤ if p k then (k.val : ℤ) else N := fun k =>
    val k ▸ ((Finset.le_fold_min _).1 hM.le).2 k (Finset.mem_univ k)
  obtain ⟨k₀, h₀⟩ := hp
  have hk₀ := lo k₀
  rw [if_pos h₀] at hk₀
  rcases (Finset.fold_min_le _).1 hM.ge with h | ⟨k, -, h⟩
  · have : (2147483647#32 : BitVec 32).toInt = 2147483647 := by decide
    omega
  · rw [val k] at h
    have hk := lo k
    by_cases pk : p k
    · rw [if_pos pk] at h hk
      refine ⟨k, pk, fun k' pk' => ?_, le_antisymm hk h⟩
      have := lo k'
      rw [if_pos pk'] at this
      exact Fin.le_def.2 (by omega)
    · rw [if_neg pk] at h
      omega

end Cert.Column

end
-- ==== Proof.Block.lean ====
/-
# What one block gives

A device's own pair for a column: the greatest value of its 1024 rows and the first of them that has it, numbered in
the whole array.
-/
module

public import proofs.«01_k».proof.Proof.Best
public import proofs.«01_k».proof.Proof.Protocol
public import Idealize.ShloMosaic.Lib.Pipeline.Value
public import Idealize.ShloMosaic.Lib.ValueLayout

@[expose] public section

noncomputable section

namespace Cert.Exchange

open Cert.KernelIdeal Cert.KernelIdeal.Gen Cert.Column
open Idealize.ShloMosaic Idealize.ShloMosaic.TcCoe
open Idealize.ShloMosaic.ValueIdx (ix1 ix2 ix3)

attribute [local instance] Cert.KernelIdeal.Gen.facts

/-- The index a reduction over the rows reads at column `q` and row `k`. -/
theorem lift_rows (q : Fin 512) (k : Fin 1024) : reduces_S1024x512_S512.lift (ix1 q) k = ix2 k q := by
  funext a
  match a with
  | ⟨0, _⟩ => rfl
  | ⟨1, _⟩ => rfl

variable (x : Vec Ideal S1024x512 .f32) (q : Fin 512)

/-- The cast of a block to its own shape is the block. -/
theorem block_cast : k0_pay4 x = x := shapeCast_self x _

/-- A block's maxima: the fold of `max` over the rows. -/
theorem maxima_apply : k0_pay5 x (ix1 q) = (Finset.univ : Finset (Fin 1024)).fold max (⊥ : EReal) fun k => x (ix2 k q) := by
  unfold k0_pay5
  rw [block_cast]
  refine (Ideal.multiReduction_maximumf_single (φ := .f32) x _ _ _ _ (ix1 q)).trans ?_
  rw [ofBits_bot]
  exact congrArg (Finset.fold max ⊥ · Finset.univ) (funext fun k => congrArg x (lift_rows q k))

/-- The words whose smallest is sought: a row's number where the row has its column's maximum, else 8192. -/
theorem marked (k : Fin 1024) :
    select (cmpf .oeq (k0_pay4 x) (broadcastTo S1024x512 (shapeCast S1x512 (k0_pay5 x) shapeCasts_S512_S1x512) broadcasts_S1x512_S1024x512))
        (iota .tc S1024x512 32 [0] iota_S1024x512_d0_w32) (broadcast S1024x512 8192#32) (ix2 k q)
      = if x (ix2 k q) = k0_pay5 x (ix1 q) then BitVec.ofNat 32 k.val else BitVec.ofNat 32 8192 := by
  have e : broadcastTo S1024x512 (shapeCast S1x512 (k0_pay5 x) shapeCasts_S512_S1x512) broadcasts_S1x512_S1024x512 (ix2 k q)
      = k0_pay5 x (ix1 q) :=
    (ValueIdx.broadcastTo_1b_ab_apply _ _ k q).trans (ValueIdx.shapeCast_a_1a_apply _ _ _ q)
  rw [ValueIdx.select_apply, ValueIdx.cmpf_apply, e, block_cast, iota_single_apply, ValueIdx.broadcast_apply]
  show Scalar.select (BitVec.ofBool (decide (x (ix2 k q) = k0_pay5 x (ix1 q)))) _ _ = _
  by_cases h : x (ix2 k q) = k0_pay5 x (ix1 q)
  · rw [if_pos h, decide_eq_true h]; rfl
  · rw [if_neg h, decide_eq_false h]; rfl

/-- A block's row numbers before they are converted: the fold of the smaller over the rows that have the maximum. -/
theorem firsts_apply (w : BitVec 32) : k0_pay6 w x (ix1 q)
    = (((IntOp.addi (IntOp.muli w 1024#32) ((Finset.univ : Finset (Fin 1024)).fold IntOp.minsi 2147483647#32 fun k =>
        if x (ix2 k q) = k0_pay5 x (ix1 q) then BitVec.ofNat 32 k.val else BitVec.ofNat 32 8192)).toInt : ℝ) : EReal) := by
  unfold k0_pay6
  refine congrArg (fun b : BitVec 32 => (((IntOp.addi (IntOp.muli w 1024#32) b).toInt : ℝ) : EReal)) ?_
  refine (congrFun (multiReductionI_eq_reduceFold .minsi _ _ _ _) _).trans ?_
  rw [reduceFold_eq_fold, Shape.Reduces.fold_filter_drop_single]
  refine congrArg (Finset.fold IntOp.minsi 2147483647#32 · Finset.univ) (funext fun k => ?_)
  exact (congrArg _ (lift_rows q k)).trans (marked x q k)

/-- A device's place on the ring as a word. -/
theorem word_toInt (c : Dev nD) (b : BitVec 32) (k : ℕ) (hk : k < 1024) (hb : b.toInt = k) :
    (IntOp.addi (IntOp.muli (word c) 1024#32) b).toInt = 1024 * c.val + k := by
  have hb' : b = BitVec.ofNat 32 k := by
    apply BitVec.eq_of_toInt_eq
    rw [hb, BitVec.toInt_ofNat', Int.bmod_def]
    omega
  have hw : word c = BitVec.ofNat 32 c.val := by revert c; decide
  have : c.val < 8 := c.isLt
  rw [hw, hb']
  show (BitVec.ofNat 32 c.val * 1024#32 + BitVec.ofNat 32 k).toInt = _
  rw [show BitVec.ofNat 32 c.val * 1024#32 + BitVec.ofNat 32 k = BitVec.ofNat 32 (c.val * 1024 + k) by
      rw [BitVec.ofNat_add, BitVec.ofNat_mul],
    BitVec.toInt_ofNat', Int.bmod_def]
  omega

/-- The rows of device `c`. -/
def rowsOf (c : Dev nD) (r : ℤ) : Prop := ∃ k : Fin 1024, r = 1024 * (c.val : ℤ) + k.val

/-- A device's own pair. -/
theorem block_best (c : Dev nD) (G : ℤ → EReal) (hG : ∀ k : Fin 1024, x (ix2 k q) = G (1024 * (c.val : ℤ) + k.val)) :
    ∃ i : ℤ, k0_pay6 (word c) x (ix1 q) = ((i : ℝ) : EReal) ∧ IsBest G (rowsOf c) (k0_pay5 x (ix1 q)) i := by
  obtain ⟨up, k₁, h₁⟩ := fold_max_spec (by decide : 0 < 1024) fun k => x (ix2 k q)
  rw [← maxima_apply] at h₁
  have up' : ∀ k : Fin 1024, x (ix2 k q) ≤ k0_pay5 x (ix1 q) := fun k => maxima_apply x q ▸ up k
  obtain ⟨k, hk, hmin, hval⟩ := fold_marked_spec (by decide : 1024 ≤ 8192) (by decide)
    (fun k : Fin 1024 => x (ix2 k q) = k0_pay5 x (ix1 q)) ⟨k₁, h₁⟩
  refine ⟨1024 * (c.val : ℤ) + k.val, ?_, ?_, ?_, .inl ⟨⟨k, rfl⟩, (hG k).symm.trans hk⟩⟩
  · rw [firsts_apply, word_toInt c _ k.val k.isLt hval]
  · rintro r ⟨k', rfl⟩
    exact hG k' ▸ up' k'
  · rintro r ⟨k', rfl⟩ e
    have := Fin.le_def.1 (hmin k' ((hG k').trans e))
    omega

end Cert.Exchange

end
-- ==== Proof.Combine.lean ====
/-
# Combining the blocks' pairs

Taking in a slot turns the pair of some rows into the pair of those and the sender's; after the seven slots the rows
are all of the array's.
-/
module

public import proofs.«01_k».proof.Proof.Block
public import proofs.«01_k».proof.Proof.Parts
public import Idealize.ShloMosaic.Lib.WordCmp

@[expose] public section

noncomputable section

namespace Cert.Exchange

open Cert.KernelIdeal Cert.KernelIdeal.Gen Cert.Column
open Idealize.ShloMosaic Idealize.ShloMosaic.TcCoe
open Idealize.ShloMosaic.ValueIdx (ix1 ix2 ix3)

attribute [local instance] Cert.KernelIdeal.Gen.facts

variable (x : Dev nD → Vec Ideal S1024x512 .f32) (c : Dev nD) (q : Fin 512)

/-- A row loaded from slot `j`: what the slot's sender put there. -/
theorem rowAt_apply (j : Fin 7) (r : Fin 2) : rowAt x c j r (ix3 0 0 q) = sent x (src c j) (ix2 r q) := by
  unfold rowAt
  rw [View.readAt_apply]
  show landed x c _ = _
  refine (congrArg (landed x c) (?_ : _ = ix3 j r q)).trans rfl
  funext a
  refine Fin.ext ?_
  match a with
  | ⟨0, _⟩ => exact Nat.add_zero _
  | ⟨1, _⟩ => exact Nat.add_zero _
  | ⟨2, _⟩ => exact (Nat.zero_add (1 * q.val)).trans (Nat.one_mul q.val)

/-- The cast of a loaded row reads the row. -/
theorem row_cast (v : Vec Ideal S1x1x512 .f32) : k0_pay9 v (ix1 q) = v (ix3 0 0 q) := by
  refine shapeCast_apply v _ _ _ ?_
  rw [Shape.rowMajor_val_three, Shape.rowMajor_val_one]
  show (0 * 1 + 0) * 512 + q.val = q.val
  omega

/-- The maximum a slot brings. -/
theorem slot_max (j : Fin 7) : k0_pay9 (rowAt x c j 0) (ix1 q) = k0_pay5 (x (src c j)) (ix1 q) :=
  (row_cast q _).trans (rowAt_apply x c q j 0)

/-- The row number it brings. -/
theorem slot_row (j : Fin 7) : k0_pay10 (rowAt x c j 1) (ix1 q) = k0_pay6 (word (src c j)) (x (src c j)) (ix1 q) :=
  (row_cast q _).trans (rowAt_apply x c q j 1)

/-- The condition under which a slot's pair replaces the best so far. -/
theorem taken_apply (bv bi : FVec Ideal S512 .f32) (rv ri : Vec Ideal S1x1x512 .f32) (i j : ℤ)
    (hi : bi (ix1 q) = ((i : ℝ) : EReal)) (hj : k0_pay10 ri (ix1 q) = ((j : ℝ) : EReal)) :
    k0_pay11 bv bi rv ri (ix1 q)
      = BitVec.ofBool (decide (bv (ix1 q) < k0_pay9 rv (ix1 q) ∨ (k0_pay9 rv (ix1 q) = bv (ix1 q) ∧ j < i))) := by
  unfold k0_pay11
  show IntOp.ori (BitVec.ofBool (decide (bv (ix1 q) < k0_pay9 rv (ix1 q))))
    (IntOp.andi (BitVec.ofBool (decide (k0_pay9 rv (ix1 q) = bv (ix1 q)))) (BitVec.ofBool (decide (k0_pay10 ri (ix1 q) < bi (ix1 q))))) = _
  rw [WordCmp.andi_ofBool, WordCmp.ori_ofBool, hi, hj]
  simp only [Bool.decide_or, Bool.decide_and, EReal.coe_lt_coe_iff, Int.cast_lt]

/-- Taking in slot `j`. -/
theorem merge_best (b : FVec Ideal S512 .f32 × FVec Ideal S512 .f32) (j : Fin 7) (G : ℤ → EReal) (S T : ℤ → Prop) (i i' : ℤ)
    (hi : b.2 (ix1 q) = ((i : ℝ) : EReal)) (h : IsBest G S (b.1 (ix1 q)) i)
    (hi' : k0_pay10 (rowAt x c j 1) (ix1 q) = ((i' : ℝ) : EReal)) (h' : IsBest G T (k0_pay9 (rowAt x c j 0) (ix1 q)) i') :
    ∃ k : ℤ, (merge x c b j).2 (ix1 q) = ((k : ℝ) : EReal) ∧ IsBest G (fun r => S r ∨ T r) ((merge x c b j).1 (ix1 q)) k := by
  have u := h.union h'
  have t := taken_apply q b.1 b.2 (rowAt x c j 0) (rowAt x c j 1) i i' hi hi'
  have e1 : (merge x c b j).1 (ix1 q) = _ := congrArg (Scalar.select · (k0_pay9 (rowAt x c j 0) (ix1 q)) (b.1 (ix1 q))) t
  have e2 : (merge x c b j).2 (ix1 q) = _ := congrArg (Scalar.select · (k0_pay10 (rowAt x c j 1) (ix1 q)) (b.2 (ix1 q))) t
  rw [WordCmp.select_ofBool] at e1 e2
  simp only [decide_eq_true_eq] at e1 e2
  refine ⟨_, ?_, e1 ▸ u⟩
  rw [e2, hi, hi']
  split_ifs <;> rfl

/-- The rows the best of the first `n` slots is taken over. -/
def rowsUpTo (c : Dev nD) : ℕ → ℤ → Prop
  | 0 => rowsOf c
  | n + 1 => fun r => rowsUpTo c n r ∨ rowsOf (src c (Fin.ofNat 7 n)) r

/-- The pair after `n` slots. -/
theorem best_spec (G : ℤ → EReal) (hG : ∀ (d : Dev nD) (k : Fin 1024), x d (ix2 k q) = G (1024 * (d.val : ℤ) + k.val)) (n : ℕ) :
    ∃ i : ℤ, (best x c n).2 (ix1 q) = ((i : ℝ) : EReal) ∧ IsBest G (rowsUpTo c n) ((best x c n).1 (ix1 q)) i := by
  induction n with
  | zero =>
    obtain ⟨i, hi, h⟩ := block_best (x c) q c G (hG c)
    rw [best, rowsUpTo]
    dsimp only
    exact ⟨i, hi, h⟩
  | succ n ih =>
    obtain ⟨i, hi, h⟩ := ih
    obtain ⟨i', hi', h'⟩ := block_best (x (src c (Fin.ofNat 7 n))) q (src c (Fin.ofNat 7 n)) G (hG _)
    rw [best]
    exact merge_best x c q (best x c n) (Fin.ofNat 7 n) G _ _ i i' hi h ((slot_row x c q _).trans hi') ((slot_max x c q _).symm ▸ h')

/-- Every device is `c` or the sender of one of its slots. -/
theorem covered (c d : Dev nD) : d = c ∨ d = src c 0 ∨ d = src c 1 ∨ d = src c 2 ∨ d = src c 3 ∨ d = src c 4 ∨ d = src c 5 ∨ d = src c 6 := by
  revert c d; decide

/-- After the seven slots every row has been looked at. -/
theorem rowsUpTo_all (c : Dev nD) (r : ℤ) : rowsUpTo c 7 r ↔ allRows r := by
  constructor
  · have one : ∀ d : Dev nD, rowsOf d r → allRows r := by
      rintro d ⟨k, rfl⟩
      have : d.val < 8 := d.isLt
      exact ⟨by omega, by omega⟩
    have upTo : ∀ n, rowsUpTo c n r → allRows r := by
      intro n
      induction n with
      | zero => exact one c
      | succ n ih => exact fun h => h.elim ih (one _)
    exact upTo 7
  · rintro ⟨h0, h1⟩
    have hr : rowsOf (⟨r.toNat / 1024, by show _ < 8; omega⟩ : Dev nD) r := ⟨⟨r.toNat % 1024, by omega⟩, by simp only []; omega⟩
    rcases covered c ⟨r.toNat / 1024, by show _ < 8; omega⟩ with h | h | h | h | h | h | h | h <;> rw [h] at hr
    · exact .inl (.inl (.inl (.inl (.inl (.inl (.inl hr))))))
    · exact .inl (.inl (.inl (.inl (.inl (.inl (.inr hr))))))
    · exact .inl (.inl (.inl (.inl (.inl (.inr hr)))))
    · exact .inl (.inl (.inl (.inl (.inr hr))))
    · exact .inl (.inl (.inl (.inr hr)))
    · exact .inl (.inl (.inr hr))
    · exact .inl (.inr hr)
    · exact .inr hr

/-- The pair a device ends with is the whole array's. -/
theorem final_best (G : ℤ → EReal) (hG : ∀ (d : Dev nD) (k : Fin 1024), x d (ix2 k q) = G (1024 * (d.val : ℤ) + k.val)) :
    ∃ i : ℤ, (best x c 7).2 (ix1 q) = ((i : ℝ) : EReal) ∧ IsBest G allRows ((best x c 7).1 (ix1 q)) i := by
  obtain ⟨i, hi, h⟩ := best_spec x c q G hG 7
  exact ⟨i, hi, h.congr (rowsUpTo_all c)⟩

end Cert.Exchange

end
-- ==== Proof.Reference.lean ====
/-
# The reference's run

The reference is a straight line of operations on whole arrays: the run of it, and its result as an expression of its
argument.
-/
module

public import proofs.«01_k».proof.ReferenceIdeal
public import proofs.«01_k».proof.Proof.Gen.ReferenceIdeal
public import Idealize.ShloMosaic.Lib.StableHlo.Run
public import Idealize.ShloMosaic.Lib.Quiescent

@[expose] public section

noncomputable section

namespace Cert.WholeArray

open Cert.ReferenceIdeal Cert.ReferenceIdeal.Gen
open Idealize.ShloMosaic Idealize.ShloMosaic.TcCoe Idealize.ShloMosaic.StableHlo Idealize.SL.Sem

attribute [local instance] Cert.ReferenceIdeal.Gen.facts

variable {F : FTy → Type} [FloatOps F]

/-- The reference's operations, in order. -/
abbrev ops : List (HloOp τ sig (Elt F)) :=
  [ TRef.nullary main_call0.v0 (iotaInDim S8192x512 32 0),
    TRef.nullary main_call0.cst (constant S_ .f32 0xFF800000#32),
    TRef.nullary main_call0.c (constantI S_ 32 0#32),
    TRef.quaternary (.of main_arg0) main_call0.v0 main_call0.cst main_call0.c main_call0.v1_0
      (fun x y u v j => (Host.argReduce reducer_argmax_f32_i32 x y u v reducesTo_S8192x512_S512_d0 h_S_ j).1),
    TRef.quaternary (.of main_arg0) main_call0.v0 main_call0.cst main_call0.c main_call0.v1_1
      (fun x y u v j => (Host.argReduce reducer_argmax_f32_i32 x y u v reducesTo_S8192x512_S512_d0 h_S_ j).2),
    unary main_v0 main_v1 (sitofp .f32),
    nullary main_cst (constant S_ .f32 0xFF800000#32),
    binary main_arg0 main_cst main_v2 (fun x v => Host.reduce FloatOps.maximumf x v reducesTo_S8192x512_S512_d0 h_S_),
    unary main_v2 main_v3 (broadcastInDim S1x512 ![1] bcast_S512_S1x512_1),
    unary main_v1 main_v4 (broadcastInDim S1x512 ![1] bcast_S512_S1x512_1),
    binary main_v3 main_v4 main_v5
      (fun a b => concatenate S2x512 0 [⟨S1x512, a⟩, ⟨S1x512, b⟩] concatenates_S1x512_S1x512_S2x512_d0) ]

/-- The program is that line. -/
theorem main_eq (c : Dev nD) : main (F := F) c = seq ops := rfl

/-- The columns' maxima. -/
def maxima (x : FVec F S8192x512 .f32) : FVec F S512 .f32 :=
  Host.reduce FloatOps.maximumf x (constant S_ .f32 0xFF800000#32) reducesTo_S8192x512_S512_d0 h_S_

/-- The rows that have them. -/
def rows (x : FVec F S8192x512 .f32) : IVec S512 32 := fun j =>
  (Host.argReduce reducer_argmax_f32_i32 x (iotaInDim S8192x512 32 0) (constant S_ .f32 0xFF800000#32) (constantI S_ 32 0#32)
    reducesTo_S8192x512_S512_d0 h_S_ j).2

/-- The reference's result: the maxima above the row numbers. -/
def result (x : FVec F S8192x512 .f32) : FVec F S2x512 .f32 :=
  concatenate S2x512 0 [⟨S1x512, broadcastInDim S1x512 ![1] bcast_S512_S1x512_1 (maxima x)⟩,
    ⟨S1x512, broadcastInDim S1x512 ![1] bcast_S512_S1x512_1 (sitofp .f32 (rows x))⟩] concatenates_S1x512_S1x512_S2x512_d0

/-- The line leaves that in the result's buffer. -/
theorem result_eq (V : Valuation τ sig (Elt F)) :
    after ops V (main_v5 : DevRef τ sig) = result (V (main_arg0 : DevRef τ sig)) := by
  after_results
  rfl

/-- It leaves the argument. -/
theorem arg_eq (V : Valuation τ sig (Elt F)) :
    after ops V (main_arg0 : DevRef τ sig) = V (main_arg0 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

/-- The operations touch the device's own buffers only. -/
theorem ops_sub : (ops : List (HloOp τ sig (Elt F))).Forall fun op => op.bufs ⊆ tcRefs τ sig :=
  ⟨nullary_bufs_sub .., nullary_bufs_sub .., nullary_bufs_sub .., quaternary_bufs_sub .., quaternary_bufs_sub ..,
    unary_bufs_sub .., nullary_bufs_sub .., binary_bufs_sub .., unary_bufs_sub .., unary_bufs_sub .., binary_bufs_sub ..⟩

/-- The reference ends with its result that expression of its argument, and the argument unchanged. -/
theorem run_reference (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v5) = result (m ((c.tc : Thread nD τ).loc main_arg0))
        ∧ r.2.mem ((c.tc : Thread nD τ).loc main_arg0) = m ((c.tc : Thread nD τ).loc main_arg0) :=
  (θ_run defs _ _).mono (fun _ h c => ⟨(h c main_v5).trans (result_eq _), (h c main_arg0).trans (arg_eq _)⟩)
    (run_seq scopedRefs_eq scopedSems_eq defs main (fun _ => ops) main_eq (fun _ => ops_sub) m ρ)

end Cert.WholeArray

end
-- ==== Proof.RefValue.lean ====
/-
# What the reference computes

For each column the reference's two rows are the column's greatest value and the first row that has it.
-/
module

public import proofs.«01_k».proof.Proof.Best
public import proofs.«01_k».proof.Proof.Reference
public import Idealize.ShloMosaic.Lib.ValueIdx
public import Idealize.ShloMosaic.Lib.WordCmp

@[expose] public section

noncomputable section

namespace Cert.WholeArray

open Cert.ReferenceIdeal Cert.ReferenceIdeal.Gen Cert.Column
open Idealize.ShloMosaic Idealize.ShloMosaic.TcCoe Idealize.ShloMosaic.StableHlo
open Idealize.ShloMosaic.ValueIdx (ix1 ix2 ix3)

attribute [local instance] Cert.ReferenceIdeal.Gen.facts

variable (X : FVec Ideal S8192x512 .f32) (q : Fin 512)

/-- Column `q` by row number. -/
def column (r : ℤ) : EReal := X (ix2 (Fin.ofNat 8192 r.toNat) q)

/-- At a row of the array it reads the array. -/
theorem column_row (k : Fin 8192) : column X q k.val = X (ix2 k q) :=
  congrArg (fun a => X (ix2 a q)) (Fin.ext (Nat.mod_eq_of_lt k.isLt))

/-! ## One step of the search -/

/-- The reference's reducer keeps the first pair where its value is greater or, the values equal, its row is smaller. -/
theorem reducer_eq (a b : Ideal .f32 × BitVec 32) :
    reducer_argmax_f32_i32 a b
      = ((if b.1 < a.1 ∨ (a.1 = b.1 ∧ a.2.toInt < b.2.toInt) then a.1 else b.1 : EReal),
          if b.1 < a.1 ∨ (a.1 = b.1 ∧ a.2.toInt < b.2.toInt) then a.2 else b.2) := by
  unfold reducer_argmax_f32_i32
  have e4 : IntOp.ori (FloatOps.cmpf .ogt a.1 b.1) (FloatOps.cmpf .une a.1 a.1) = BitVec.ofBool (decide ((b.1 : EReal) < a.1)) := by
    show IntOp.ori (BitVec.ofBool (decide ((b.1 : EReal) < a.1))) (BitVec.ofBool (decide ((a.1 : EReal) ≠ a.1))) = _
    rw [WordCmp.ori_ofBool]
    simp
  have e7 : IntOp.andi (FloatOps.cmpf .oeq a.1 b.1) (IntOp.cmpi .slt a.2 b.2)
      = BitVec.ofBool (decide ((a.1 : EReal) = b.1 ∧ a.2.toInt < b.2.toInt)) := by
    show IntOp.andi (BitVec.ofBool (decide ((a.1 : EReal) = b.1))) (BitVec.ofBool (decide (a.2.toInt < b.2.toInt))) = _
    rw [WordCmp.andi_ofBool, Bool.decide_and]
  simp only [e4, e7]
  rw [WordCmp.ori_ofBool, ← Bool.decide_or, WordCmp.select_ofBool, WordCmp.select_ofBool]
  simp only [decide_eq_true_eq]
  refine Prod.ext ?_ rfl
  dsimp only
  by_cases h : (b.1 : EReal) < a.1
  · rw [if_pos h, if_pos (.inl h)]
  · by_cases h' : (a.1 : EReal) = b.1 ∧ a.2.toInt < b.2.toInt
    · rw [if_neg h, if_pos (.inr h')]
      exact h'.1.symm
    · rw [if_neg h, if_neg (not_or.2 ⟨h, h'⟩)]

/-- The search over a list of rows, from the pair of the rows before it. -/
theorem search_best (G : ℤ → EReal) (l : List (Ideal .f32 × BitVec 32)) (hl : ∀ p ∈ l, G p.2.toInt = p.1)
    (a : Ideal .f32 × BitVec 32) (S : ℤ → Prop) (h : IsBest G S a.1 a.2.toInt) :
    IsBest G (fun r => S r ∨ ∃ p ∈ l, r = p.2.toInt) (l.foldl reducer_argmax_f32_i32 a).1
      (l.foldl reducer_argmax_f32_i32 a).2.toInt := by
  induction l generalizing a S with
  | nil => exact h.congr fun r => by simp
  | cons p l ih =>
    have hp := hl p (List.mem_cons_self ..)
    have step : IsBest G (fun r => r = p.2.toInt ∨ S r) (reducer_argmax_f32_i32 a p).1 (reducer_argmax_f32_i32 a p).2.toInt := by
      have u := (IsBest.single G p.2.toInt).union h
      rw [hp] at u
      rw [reducer_eq]
      dsimp only
      rw [apply_ite BitVec.toInt]
      exact u
    rw [List.foldl_cons]
    refine (ih (fun p' hp' => hl p' (List.mem_cons_of_mem _ hp')) _ _ step).congr fun r => ?_
    simp only [List.mem_cons]
    constructor
    · rintro ((e | e) | ⟨p', hp', e⟩)
      · exact .inr ⟨p, .inl rfl, e⟩
      · exact .inl e
      · exact .inr ⟨p', .inr hp', e⟩
    · rintro (e | ⟨p', rfl | hp', e⟩)
      · exact .inl (.inr e)
      · exact .inl (.inl e)
      · exact .inr ⟨p', hp', e⟩

/-! ## The columns -/

/-- An index that a reduction over the rows sends to column `q` is one of that column. -/
theorem drop_rows (i : S8192x512.Idx) : reducesTo_S8192x512_S512_d0.drop i = ix1 q ↔ ∃ k : Fin 8192, i = ix2 k q := by
  constructor
  · intro h
    have e := (Shape.ReducesTo.drop_apply_val_of_eq reducesTo_S8192x512_S512_d0 i 0 1).symm.trans
      (congrArg (fun j : S512.Idx => (j 0).val) h)
    exact ⟨i 0, (ValueIdx.eq_ix2 i).trans (congrArg (ix2 (i 0)) (Fin.ext e))⟩
  · rintro ⟨k, rfl⟩
    refine (ValueIdx.eq_ix1 _).trans (congrArg ix1 (Fin.ext ?_))
    exact Shape.ReducesTo.drop_apply_val_of_eq reducesTo_S8192x512_S512_d0 (ix2 k q) 0 1

/-- The pairs the reference searches at column `q`: the column's values with their rows. -/
theorem mem_fiber (p : Ideal .f32 × BitVec 32) :
    p ∈ Host.argReduceFiber X (iotaInDim S8192x512 32 0) reducesTo_S8192x512_S512_d0 (ix1 q)
      ↔ ∃ k : Fin 8192, p = (X (ix2 k q), BitVec.ofNat 32 k.val) := by
  unfold Host.argReduceFiber
  simp only [List.mem_map, List.mem_filter, List.mem_finRange, true_and, decide_eq_true_eq, drop_rows]
  constructor
  · rintro ⟨n, ⟨k, hk⟩, rfl⟩
    exact ⟨k, by rw [hk]; rfl⟩
  · rintro ⟨k, rfl⟩
    exact ⟨S8192x512.rowMajor (ix2 k q), ⟨k, Equiv.symm_apply_apply _ _⟩, by rw [Equiv.symm_apply_apply]; rfl⟩

/-- A row number as a word and back. -/
theorem row_toInt (k : Fin 8192) : (BitVec.ofNat 32 k.val).toInt = (k.val : ℤ) := by
  rw [BitVec.toInt_ofNat', Int.bmod_def]
  omega

/-- A search along axes of an array, as a search over the list of the pairs there. -/
theorem argReduce_list {s t u : Shape} {axes : List (Fin s.rank)} {β : Type} (f : Ideal .f32 × β → Ideal .f32 × β → Ideal .f32 × β)
    (x : FVec Ideal s .f32) (y : s.Idx → β) (ix : u.Idx → Ideal .f32) (iy : u.Idx → β) (h : s.ReducesTo axes t)
    (hu : 0 < u.numel) (j : t.Idx) :
    Host.argReduce f x y ix iy h hu j
      = (Host.argReduceFiber x y h j).foldl f (ix (Shape.Idx.first hu), iy (Shape.Idx.first hu)) := by
  rw [Ideal.argReduce_eq_reduce2, Host.reduce2_eq_foldl_fiber]

/-- The reference's row numbers as the second halves of the searches' results. -/
theorem rows_def : rows X = fun j => (Host.argReduce reducer_argmax_f32_i32 X (iotaInDim S8192x512 32 0)
    (constant S_ .f32 0xFF800000#32) (constantI S_ 32 0#32) reducesTo_S8192x512_S512_d0 h_S_ j).2 := by
  with_reducible_and_instances (delta rows; rfl)

/-- The reference's row number at a column, as a search over a list of pairs. -/
theorem rows_list (j : S512.Idx) : rows X j
    = ((Host.argReduceFiber X (iotaInDim S8192x512 32 0) reducesTo_S8192x512_S512_d0 j).foldl reducer_argmax_f32_i32
        (constant S_ .f32 0xFF800000#32 (Shape.Idx.first h_S_), constantI S_ 32 0#32 (Shape.Idx.first h_S_))).2 :=
  (congrFun (rows_def X) j).trans
    (congrArg Prod.snd (argReduce_list reducer_argmax_f32_i32 X _ _ _ reducesTo_S8192x512_S512_d0 h_S_ j))

/-- A search over the pairs of a column's rows, in whatever order, finds the column's pair. -/
theorem search_column (l : List (Ideal .f32 × BitVec 32))
    (hl : ∀ p, p ∈ l ↔ ∃ k : Fin 8192, p = (X (ix2 k q), BitVec.ofNat 32 k.val)) (a : Ideal .f32 × BitVec 32)
    (ha : IsBest (column X q) (fun _ => False) a.1 a.2.toInt) :
    IsBest (column X q) allRows (l.foldl reducer_argmax_f32_i32 a).1 (l.foldl reducer_argmax_f32_i32 a).2.toInt := by
  refine (search_best (column X q) l ?_ a (fun _ => False) ha).congr ?_
  · intro p hp
    obtain ⟨k, rfl⟩ := (hl p).1 hp
    exact (congrArg (column X q) (row_toInt k)).trans (column_row X q k)
  · intro r
    constructor
    · rintro (h | ⟨p, hp, rfl⟩)
      · exact h.elim
      · obtain ⟨k, rfl⟩ := (hl p).1 hp
        rw [row_toInt]
        exact ⟨by omega, by omega⟩
    · rintro ⟨h0, h1⟩
      refine .inr ⟨(X (ix2 ⟨r.toNat, by omega⟩ q), BitVec.ofNat 32 r.toNat), (hl _).2 ⟨⟨r.toNat, by omega⟩, rfl⟩, ?_⟩
      have := row_toInt ⟨r.toNat, by omega⟩
      dsimp only at this ⊢
      omega

/-- The search's first pair is that of no rows. -/
theorem start_best : IsBest (column X q) (fun _ => False)
    ((constant S_ .f32 0xFF800000#32 (Shape.Idx.first h_S_), constantI S_ 32 0#32 (Shape.Idx.first h_S_)) : Ideal .f32 × BitVec 32).1
    ((constant S_ .f32 0xFF800000#32 (Shape.Idx.first h_S_), constantI S_ 32 0#32 (Shape.Idx.first h_S_)) : Ideal .f32 × BitVec 32).2.toInt := by
  have e : (constant S_ .f32 0xFF800000#32 (Shape.Idx.first h_S_) : Ideal .f32) = (⊥ : EReal) := ofBits_bot
  dsimp only
  rw [e]
  exact IsBest.start _

/-- The reference's row number at column `q` is that of the column's pair. -/
theorem rows_best : ∃ v : EReal, IsBest (column X q) allRows v (rows X (ix1 q)).toInt := by
  rw [rows_list X (ix1 q)]
  exact ⟨_, search_column X q _ (mem_fiber X q) _ (start_best X q)⟩

/-- Its maximum there is the pair's value. -/
theorem maxima_best : IsBest (column X q) allRows (maxima X (ix1 q)) (rows X (ix1 q)).toInt := by
  obtain ⟨v, h⟩ := rows_best X q
  suffices e : (maxima X (ix1 q) : EReal) = v from e ▸ h
  have f : (maxima X (ix1 q) : EReal)
      = (Finset.univ.filter fun i => reducesTo_S8192x512_S512_d0.drop i = ix1 q).fold max (⊥ : EReal) X := by
    unfold maxima
    refine (Host.reduce_eq_fold FloatOps.maximumf X _ reducesTo_S8192x512_S512_d0 h_S_ (ix1 q)).trans ?_
    exact congrArg (fun b : EReal => Finset.fold max b X (Finset.univ.filter fun i => reducesTo_S8192x512_S512_d0.drop i = ix1 q)) ofBits_bot
  rw [f]
  apply le_antisymm
  · refine (Finset.fold_max_le _).2 ⟨bot_le, fun i hi => ?_⟩
    obtain ⟨k, rfl⟩ := (drop_rows q i).1 (Finset.mem_filter.1 hi).2
    exact column_row X q k ▸ h.upper k.val ⟨by omega, by omega⟩
  · obtain ⟨⟨h0, h1⟩, e⟩ := h.mem ⟨le_rfl, by decide⟩
    rw [← e]
    exact (Finset.le_fold_max _).2 (.inr ⟨_, Finset.mem_filter.2 ⟨Finset.mem_univ _, (drop_rows q _).2 ⟨_, rfl⟩⟩, le_rfl⟩)

end Cert.WholeArray

end
-- ==== Proof.Equation.lean ====
/-
# The kernel's result is the reference's

Every device's result, read entry by entry, is the reference's.
-/
module

public import proofs.«01_k».proof.Proof.Combine
public import proofs.«01_k».proof.Proof.RefValue
public import Idealize.ShloMosaic.Lib.Layout

@[expose] public section

noncomputable section

namespace Cert.Exchange

open Cert.Column Cert.WholeArray
open Cert.KernelIdeal (nD S512 S1x512 S2x512 S1024x512)
open Idealize.ShloMosaic
open Idealize.ShloMosaic.ValueIdx (ix1 ix2)

attribute [local instance] Cert.KernelIdeal.Gen.facts Cert.ReferenceIdeal.Gen.facts

/-- Two one-row arrays of the reference joined, at row 0: the first. -/
theorem joined_top (v w : FVec Ideal Cert.ReferenceIdeal.S512 .f32) (a : Fin 2) (ha : a.val = 0) (q : Fin 512) :
    concatenate Cert.ReferenceIdeal.S2x512 0
      [⟨Cert.ReferenceIdeal.S1x512, broadcastInDim Cert.ReferenceIdeal.S1x512 ![1] Cert.ReferenceIdeal.Facts₀.bcast_S512_S1x512_1 v⟩,
        ⟨Cert.ReferenceIdeal.S1x512, broadcastInDim Cert.ReferenceIdeal.S1x512 ![1] Cert.ReferenceIdeal.Facts₀.bcast_S512_S1x512_1 w⟩]
      Cert.ReferenceIdeal.Facts₀.concatenates_S1x512_S1x512_S2x512_d0 (ix2 a q) = v (ix1 q) := by
  refine (concatenate_pair_apply_left (t := Cert.ReferenceIdeal.S2x512) (s₁ := Cert.ReferenceIdeal.S1x512)
      (s₂ := Cert.ReferenceIdeal.S1x512) 0 _ _ _ (ix2 a q) rfl (ix2 (0 : Fin 1) q) ?_).trans
    (broadcastInDim_apply _ _ v _ (ix1 q) ?_)
  · intro b
    match b with
    | ⟨0, _⟩ => exact ha.symm
    | ⟨1, _⟩ => rfl
  · intro b
    match b with
    | ⟨0, _⟩ => rfl

/-- At row 1: the second. -/
theorem joined_bottom (v w : FVec Ideal Cert.ReferenceIdeal.S512 .f32) (a : Fin 2) (ha : a.val = 1) (q : Fin 512) :
    concatenate Cert.ReferenceIdeal.S2x512 0
      [⟨Cert.ReferenceIdeal.S1x512, broadcastInDim Cert.ReferenceIdeal.S1x512 ![1] Cert.ReferenceIdeal.Facts₀.bcast_S512_S1x512_1 v⟩,
        ⟨Cert.ReferenceIdeal.S1x512, broadcastInDim Cert.ReferenceIdeal.S1x512 ![1] Cert.ReferenceIdeal.Facts₀.bcast_S512_S1x512_1 w⟩]
      Cert.ReferenceIdeal.Facts₀.concatenates_S1x512_S1x512_S2x512_d0 (ix2 a q) = w (ix1 q) := by
  refine (concatenate_pair_apply_right (t := Cert.ReferenceIdeal.S2x512) (s₁ := Cert.ReferenceIdeal.S1x512)
      (s₂ := Cert.ReferenceIdeal.S1x512) 0 _ _ _ (ix2 a q) rfl rfl (ix2 (0 : Fin 1) q) ?_ ?_).trans
    (broadcastInDim_apply _ _ w _ (ix1 q) ?_)
  · intro b hb
    match b with
    | ⟨0, _⟩ => exact absurd rfl hb
    | ⟨1, _⟩ => rfl
  · exact (Nat.zero_add 1).trans ha.symm
  · intro b
    match b with
    | ⟨0, _⟩ => rfl

variable (X : FVec Ideal Cert.ReferenceIdeal.S8192x512 .f32) (x : Dev nD → Vec Ideal S1024x512 .f32)

/-- Row `k` of device `d`'s block is row `1024 d + k` of the array. -/
theorem block_row (hx : ∀ d : Dev nD, x d = Layout.block ⟨2, ![1024, 512]⟩ ⟨2, ![8192, 512]⟩ 0 8 d X) (q : Fin 512) (d : Dev nD)
    (k : Fin 1024) : x d (ix2 k q) = column X q (1024 * (d.val : ℤ) + k.val) := by
  have hd : d.val < 8 := d.isLt
  have e := column_row X q ⟨1024 * d.val + k.val, by omega⟩
  have c : ((⟨1024 * d.val + k.val, by omega⟩ : Fin 8192).val : ℤ) = 1024 * (d.val : ℤ) + k.val := by push_cast; rfl
  rw [c] at e
  rw [hx d, e]
  refine congrArg X (funext fun a => Fin.ext ?_)
  match a with
  | ⟨0, _⟩ => exact congrArg (· + k.val) (Nat.mul_comm d.val 1024)
  | ⟨1, _⟩ => rfl

/-- Every device ends with the reference's result. -/
theorem out_eq (hx : ∀ d : Dev nD, x d = Layout.block ⟨2, ![1024, 512]⟩ ⟨2, ![8192, 512]⟩ 0 8 d X) (c : Dev nD) :
    outAt x c = result X := by
  funext i
  obtain ⟨a, q, rfl⟩ : ∃ (a : Fin 2) (q : Fin 512), i = ix2 a q := ⟨i 0, i 1, ValueIdx.eq_ix2 i⟩
  obtain ⟨k, hk, h⟩ := final_best x c q (column X q) (block_row X x hx q)
  obtain ⟨e, e'⟩ := h.unique (maxima_best X q) ⟨le_rfl, by decide⟩
  unfold outAt twoRows result
  by_cases ha : a.val = 0
  · refine (if_pos ha).trans ?_
    refine (ValueIdx.shapeCast_a_1a_apply (best x c 7).1 _ 0 q).trans ?_
    exact e.trans (joined_top (maxima X) _ a ha q).symm
  · refine (if_neg ha).trans ?_
    refine (ValueIdx.shapeCast_a_1a_apply (best x c 7).2 _ 0 q).trans ?_
    refine Eq.trans ?_ (joined_bottom (maxima X) _ a (by omega) q).symm
    rw [hk, e']
    rfl

end Cert.Exchange

end
-- ==== Proof.lean ====
/-
# The certificate

The kernel's frames, the reference's, and the equation of their results.
-/
module

public import proofs.«01_k».proof.Defs
public import proofs.«01_k».proof.Proof.Same
public import proofs.«01_k».proof.Proof.Equation

@[expose] public section

noncomputable section

namespace Cert.Proof

open Idealize.ShloMosaic Idealize.ShloMosaic.TcCoe Idealize.SL.Sem

attribute [local instance] Cert.Kernel.Gen.facts Cert.KernelIdeal.Gen.facts Cert.ReferenceIdeal.Gen.facts

/-- The reference leaves its argument, and has no semaphore. -/
theorem frame_reference : quiescent_ReferenceIdeal := fun m g _ =>
  (θ_run _ _ _).mono (fun r h => ⟨fun c => (h c).2, sem_eq_zero_of_no_sems rfl _⟩) (Cert.WholeArray.run_reference m g)

/-- The kernel's result, at the exact values, is the reference's on every device. -/
theorem equation : algebraic_KernelIdeal_ReferenceIdeal := fun m g m' g' _ hm =>
  ⟨_, (θ_run _ _ _).mono (fun _ h c => ⟨(h.1 c).1.trans (Cert.Exchange.out_eq _ _ hm c), (h.1 c).2⟩)
      (Cert.Exchange.run_kernel (F := Ideal) m g),
    (θ_run _ _ _).mono (fun _ h => h 0) (Cert.WholeArray.run_reference m' g')⟩

/-- The certificate's claims. -/
theorem claim : Cert.Claim :=
  ⟨Cert.Kernel.Gen.facts, Cert.KernelIdeal.Gen.facts, Cert.ReferenceIdeal.Gen.facts,
    Cert.Exchange.frame_kernel, Cert.Exchange.frame_kernelIdeal, frame_reference, trivial, equation⟩

end Cert.Proof

end
